-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S2048x256 : Shape := ⟨2, ![2048, 256]⟩
abbrev S3x4x512x256 : Shape := ⟨4, ![3, 4, 512, 256]⟩
abbrev S4x512x256 : Shape := ⟨3, ![4, 512, 256]⟩
abbrev S3x6 : Shape := ⟨2, ![3, 6]⟩
abbrev S3 : Shape := ⟨1, ![3]⟩
abbrev S_ : Shape := ⟨0, ![]⟩
abbrev S256x256 : Shape := ⟨2, ![256, 256]⟩
abbrev S1x1x256x256 : Shape := ⟨4, ![1, 1, 256, 256]⟩
abbrev S1x1 : Shape := ⟨2, ![1, 1]⟩
abbrev S1x1x512x256 : Shape := ⟨4, ![1, 1, 512, 256]⟩
abbrev S1x512x256 : Shape := ⟨3, ![1, 512, 256]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S2048x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S2048x256, .f32⟩
  | .local _ .vmem, ⟨8, _⟩ => ⟨S3x4x512x256, .bf16⟩
  | .local _ .vmem, ⟨9, _⟩ => ⟨S3x4x512x256, .bf16⟩
  | .local _ .vmem, ⟨10, _⟩ => ⟨S4x512x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_off1 (d0 : Dev nD) : Fin 4 → Nat :=
  let c0_15 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v20 : Index := Scalar.indexCast v2
  let c0_16 : Index := 0#32
  let c0_17 : Index := 0#32
  ![0, v20.toNat, 0, 0]
def k0_off2 (d0 : Dev nD) : Fin 4 → Nat :=
  let c0_20 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v27 : Index := Scalar.indexCast v2
  let c256 : Index := 256#32
  let c0_21 : Index := 0#32
  ![0, v27.toNat, 256, 0]
def k0_off3 (d0 : Dev nD) : Fin 4 → Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_40 : BitVec 32 := 0#32
  let c0_i32_41 : BitVec 32 := 0#32
  ![0, v2.toNat, 0, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v45 : BitVec 32 := Scalar.muli v7 c1_i32_38
  let v46 : BitVec 32 := Scalar.addi c0_i32_39 v45
  v46.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_50 : BitVec 32 := 1#32
  let v55 : BitVec 32 := Scalar.muli v7 c1_i32_50
  let v56 : BitVec 32 := Scalar.addi c0_i32_51 v55
  v56.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_62 : BitVec 32 := 1#32
  let v65 : BitVec 32 := Scalar.muli v5 c1_i32_62
  let v66 : BitVec 32 := Scalar.addi c0_i32_63 v65
  v66.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_74 : BitVec 32 := 1#32
  let v75 : BitVec 32 := Scalar.muli v5 c1_i32_74
  let v76 : BitVec 32 := Scalar.addi c0_i32_75 v75
  v76.toNat
def k0_off4 (d0 : Dev nD) : Fin 4 → Nat :=
  let c1 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v88 : Index := Scalar.indexCast v2
  let c0_82 : Index := 0#32
  let c0_83 : Index := 0#32
  ![1, v88.toNat, 0, 0]
def k0_off5 (d0 : Dev nD) : Fin 4 → Nat :=
  let c1_86 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v95 : Index := Scalar.indexCast v2
  let c256_87 : Index := 256#32
  let c0_88 : Index := 0#32
  ![1, v95.toNat, 256, 0]
def k0_off6 (d0 : Dev nD) : Fin 4 → Nat :=
  let c2 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v116 : Index := Scalar.indexCast v2
  let c0_101 : Index := 0#32
  let c0_102 : Index := 0#32
  ![2, v116.toNat, 0, 0]
def k0_off7 (d0 : Dev nD) : Fin 4 → Nat :=
  let c2_105 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : Index := Scalar.indexCast v2
  let c256_106 : Index := 256#32
  let c0_107 : Index := 0#32
  ![2, v123.toNat, 256, 0]
def k0_off8 (d0 : Dev nD) : Fin 4 → Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_127 : BitVec 32 := 0#32
  let c0_i32_128 : BitVec 32 := 0#32
  ![0, v5.toNat, 0, 0]
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_137 : BitVec 32 := 1#32
  let v152 : BitVec 32 := Scalar.muli v7 c1_i32_137
  let v153 : BitVec 32 := Scalar.addi c0_i32_138 v152
  v153.toNat
def k0_off9 (d0 : Dev nD) : Fin 4 → Nat :=
  let c0_143 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v162 : Index := Scalar.indexCast v2
  let c0_144 : Index := 0#32
  let c0_145 : Index := 0#32
  ![0, v162.toNat, 0, 0]
def k0_off10 (d0 : Dev nD) : Fin 4 → Nat :=
  let c0_154 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v183 : Index := Scalar.indexCast v5
  let c0_155 : Index := 0#32
  let c0_156 : Index := 0#32
  ![0, v183.toNat, 0, 0]
def k0_off11 (d0 : Dev nD) (c1_i32_3 : BitVec 32) : Fin 4 → Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_167 : BitVec 32 := 0#32
  let c0_i32_168 : BitVec 32 := 0#32
  ![0, v7.toNat, 0, 0]
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_176 : BitVec 32 := 1#32
  let v202 : BitVec 32 := Scalar.muli v5 c1_i32_176
  let v203 : BitVec 32 := Scalar.addi c0_i32_177 v202
  v203.toNat
def k0_off12 (d0 : Dev nD) : Fin 4 → Nat :=
  let c1_i32_183 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_190 : BitVec 32 := 0#32
  let c0_i32_191 : BitVec 32 := 0#32
  ![1, v2.toNat, 0, 0]
def k0_dev10 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_188 : BitVec 32 := 1#32
  let v212 : BitVec 32 := Scalar.muli v7 c1_i32_188
  let v213 : BitVec 32 := Scalar.addi c0_i32_189 v212
  v213.toNat
def k0_dev11 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_200 : BitVec 32 := 1#32
  let v222 : BitVec 32 := Scalar.muli v7 c1_i32_200
  let v223 : BitVec 32 := Scalar.addi c0_i32_201 v222
  v223.toNat
def k0_dev12 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_212 : BitVec 32 := 1#32
  let v232 : BitVec 32 := Scalar.muli v5 c1_i32_212
  let v233 : BitVec 32 := Scalar.addi c0_i32_213 v232
  v233.toNat
def k0_dev13 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_224 : BitVec 32 := 1#32
  let v242 : BitVec 32 := Scalar.muli v5 c1_i32_224
  let v243 : BitVec 32 := Scalar.addi c0_i32_225 v242
  v243.toNat
def k0_off13 (d0 : Dev nD) (c1_i32_3 : BitVec 32) : Fin 4 → Nat :=
  let c0_230 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v252 : Index := Scalar.indexCast v7
  let c0_231 : Index := 0#32
  let c0_232 : Index := 0#32
  ![0, v252.toNat, 0, 0]
def k0_off14 (d0 : Dev nD) : Fin 4 → Nat :=
  let c1_i32_305 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_311 : BitVec 32 := 0#32
  let c0_i32_312 : BitVec 32 := 0#32
  ![1, v5.toNat, 0, 0]
def k0_dev14 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_321 : BitVec 32 := 1#32
  let v348 : BitVec 32 := Scalar.muli v7 c1_i32_321
  let v349 : BitVec 32 := Scalar.addi c0_i32_322 v348
  v349.toNat
def k0_off15 (d0 : Dev nD) : Fin 4 → Nat :=
  let c1_327 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v358 : Index := Scalar.indexCast v2
  let c0_328 : Index := 0#32
  let c0_329 : Index := 0#32
  ![1, v358.toNat, 0, 0]
def k0_off16 (d0 : Dev nD) : Fin 4 → Nat :=
  let c1_339 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v379 : Index := Scalar.indexCast v5
  let c0_340 : Index := 0#32
  let c0_341 : Index := 0#32
  ![1, v379.toNat, 0, 0]
def k0_off17 (d0 : Dev nD) (c1_i32_3 : BitVec 32) : Fin 4 → Nat :=
  let c1_i32_346 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_352 : BitVec 32 := 0#32
  let c0_i32_353 : BitVec 32 := 0#32
  ![1, v7.toNat, 0, 0]
def k0_dev15 (d0 : Dev nD) : Nat :=
  let c0_i32_363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_362 : BitVec 32 := 1#32
  let v398 : BitVec 32 := Scalar.muli v5 c1_i32_362
  let v399 : BitVec 32 := Scalar.addi c0_i32_363 v398
  v399.toNat
def k0_off18 (d0 : Dev nD) : Fin 4 → Nat :=
  let c2_i32_369 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_376 : BitVec 32 := 0#32
  let c0_i32_377 : BitVec 32 := 0#32
  ![2, v2.toNat, 0, 0]
def k0_dev16 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_374 : BitVec 32 := 1#32
  let v408 : BitVec 32 := Scalar.muli v7 c1_i32_374
  let v409 : BitVec 32 := Scalar.addi c0_i32_375 v408
  v409.toNat
def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_386 : BitVec 32 := 1#32
  let v418 : BitVec 32 := Scalar.muli v7 c1_i32_386
  let v419 : BitVec 32 := Scalar.addi c0_i32_387 v418
  v419.toNat
def k0_dev18 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_398 : BitVec 32 := 1#32
  let v428 : BitVec 32 := Scalar.muli v5 c1_i32_398
  let v429 : BitVec 32 := Scalar.addi c0_i32_399 v428
  v429.toNat
def k0_dev19 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_410 : BitVec 32 := 1#32
  let v438 : BitVec 32 := Scalar.muli v5 c1_i32_410
  let v439 : BitVec 32 := Scalar.addi c0_i32_411 v438
  v439.toNat
def k0_off19 (d0 : Dev nD) (c1_i32_3 : BitVec 32) : Fin 4 → Nat :=
  let c1_416 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v448 : Index := Scalar.indexCast v7
  let c0_417 : Index := 0#32
  let c0_418 : Index := 0#32
  ![1, v448.toNat, 0, 0]
def k0_off20 (d0 : Dev nD) : Fin 4 → Nat :=
  let c2_i32_491 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_497 : BitVec 32 := 0#32
  let c0_i32_498 : BitVec 32 := 0#32
  ![2, v5.toNat, 0, 0]
def k0_dev20 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_507 : BitVec 32 := 1#32
  let v544 : BitVec 32 := Scalar.muli v7 c1_i32_507
  let v545 : BitVec 32 := Scalar.addi c0_i32_508 v544
  v545.toNat
def k0_off21 (d0 : Dev nD) : Fin 4 → Nat :=
  let c2_513 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v554 : Index := Scalar.indexCast v2
  let c0_514 : Index := 0#32
  let c0_515 : Index := 0#32
  ![2, v554.toNat, 0, 0]
def k0_off22 (d0 : Dev nD) : Fin 4 → Nat :=
  let c2_525 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v575 : Index := Scalar.indexCast v5
  let c0_526 : Index := 0#32
  let c0_527 : Index := 0#32
  ![2, v575.toNat, 0, 0]
def k0_off23 (d0 : Dev nD) (c1_i32_3 : BitVec 32) : Fin 4 → Nat :=
  let c2_i32_532 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_538 : BitVec 32 := 0#32
  let c0_i32_539 : BitVec 32 := 0#32
  ![2, v7.toNat, 0, 0]
def k0_dev21 (d0 : Dev nD) : Nat :=
  let c0_i32_549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_548 : BitVec 32 := 1#32
  let v594 : BitVec 32 := Scalar.muli v5 c1_i32_548
  let v595 : BitVec 32 := Scalar.addi c0_i32_549 v594
  v595.toNat
def k0_off24 (d0 : Dev nD) (c1_i32_3 : BitVec 32) : Fin 4 → Nat :=
  let c2_554 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v604 : Index := Scalar.indexCast v7
  let c0_555 : Index := 0#32
  let c0_556 : Index := 0#32
  ![2, v604.toNat, 0, 0]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v691 : BitVec 32 := Scalar.muli v2 c512_i32
  let v692 : Index := Scalar.indexCast v691
  let c0_628 : Index := 0#32
  ![v692.toNat, 0]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v695 : Index := Scalar.indexCast v2
  let c0_629 : Index := 0#32
  let c0_630 : Index := 0#32
  ![v695.toNat, 0, 0]
def k0_off27 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_635 : BitVec 32 := 0#32
  let c0_i32_636 : BitVec 32 := 0#32
  ![v2.toNat, 0, 0]
def k0_dev22 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_633 : BitVec 32 := 1#32
  let v699 : BitVec 32 := Scalar.muli v9 c1_i32_633
  let v700 : BitVec 32 := Scalar.addi c0_i32_634 v699
  v700.toNat
def k0_dev23 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_641 : BitVec 32 := 1#32
  let v709 : BitVec 32 := Scalar.muli v7 c1_i32_641
  let v710 : BitVec 32 := Scalar.addi c0_i32_642 v709
  v710.toNat
def k0_dev24 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_649 : BitVec 32 := 1#32
  let v719 : BitVec 32 := Scalar.muli v5 c1_i32_649
  let v720 : BitVec 32 := Scalar.addi c0_i32_650 v719
  v720.toNat
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_659 : BitVec 32 := 0#32
  let c0_i32_660 : BitVec 32 := 0#32
  ![v5.toNat, 0, 0]
def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v737 : Index := Scalar.indexCast v5
  let c0_663 : Index := 0#32
  let c0_664 : Index := 0#32
  ![v737.toNat, 0, 0]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c512_i32_665 : BitVec 32 := 512#32
  let v741 : BitVec 32 := Scalar.muli v5 c512_i32_665
  let v742 : Index := Scalar.indexCast v741
  let c0_666 : Index := 0#32
  ![v742.toNat, 0]
def k0_off31 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_671 : BitVec 32 := 0#32
  let c0_i32_672 : BitVec 32 := 0#32
  ![v7.toNat, 0, 0]
def k0_off32 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v752 : Index := Scalar.indexCast v7
  let c0_675 : Index := 0#32
  let c0_676 : Index := 0#32
  ![v752.toNat, 0, 0]
def k0_off33 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c512_i32_677 : BitVec 32 := 512#32
  let v756 : BitVec 32 := Scalar.muli v7 c512_i32_677
  let v757 : Index := Scalar.indexCast v756
  let c0_678 : Index := 0#32
  ![v757.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x256, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x256, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Slots.lean ====
/-
The transfers of the kernel and the slots they move.

Four devices stand in a ring. In each of three layers a device sends its own chunk of the weights to both
neighbours (two half-chunks each way, transfers 6k, 6k+1 to the right and 6k+2, 6k+3 to the left) and passes one
half-chunk from each neighbour on (6k+4 to the right, 6k+5 to the left). After the layers it sends its result block
to the three other devices (transfers 18, 19, 20). A transfer always carries a slot to the slot of the same index on
the other device, so what a slot holds depends on the slot only.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices and transfers -/

/-- The buffer layer a transfer moves: 0–2 the first halves of the three layers, 3–5 the second halves, 6 the results. -/
def bufOf : Fin 21 → Fin 7 := ![0, 3, 0, 3, 0, 3, 1, 4, 1, 4, 1, 4, 2, 5, 2, 5, 2, 5, 6, 6, 6]
/-- The slot a transfer moves, counted from its sender. -/
def srcRel : Fin 21 → Fin 4 := ![0, 0, 0, 0, 3, 1, 0, 0, 0, 0, 3, 1, 0, 0, 0, 0, 3, 1, 0, 0, 0]
/-- The device a transfer goes to, counted from its sender. -/
def dstRel : Fin 21 → Fin 4 := ![1, 1, 3, 3, 1, 3, 1, 1, 3, 3, 1, 3, 1, 1, 3, 3, 1, 3, 2, 1, 3]
/-- The order in which a device waits for what it receives. -/
def ord : Fin 21 → Fin 21 := ![0, 3, 2, 1, 4, 5, 6, 9, 8, 7, 10, 11, 12, 15, 14, 13, 16, 17, 19, 20, 18]
/-- Whether a received slot is passed on. -/
def fwd : Fin 21 → Bool := ![true, false, false, true, false, false, true, false, false, true, false, false,
  true, false, false, true, false, false, false, false, false]

/-- Where transfer `x` of device `c` goes. -/
def tgt (x : Fin 21) (c : Dev nD) : Dev nD := (c : Fin 4) + dstRel x
/-- Where device `d`'s transfer `x` comes from. -/
def org (x : Fin 21) (d : Dev nD) : Dev nD := (d : Fin 4) - dstRel x
/-- The slot transfer `x` of device `c` moves. -/
def slotS (x : Fin 21) (c : Dev nD) : Dev nD := (c : Fin 4) + srcRel x
/-- The slot in which transfer `x` arrives on device `d`. -/
def slotR (x : Fin 21) (d : Dev nD) : Dev nD := slotS x (org x d)

theorem org_tgt (x : Fin 21) (c : Dev nD) : org x (tgt x c) = c := by revert x c; decide
theorem tgt_org (x : Fin 21) (c : Dev nD) : tgt x (org x c) = c := by revert x c; decide
theorem slotR_tgt (x : Fin 21) (c : Dev nD) : slotR x (tgt x c) = slotS x c := by unfold slotR; rw [org_tgt]

/-- The device `r` places further on. -/
abbrev nb (r : Fin 4) (c : Dev nD) : Dev nD := (c : Fin 4) + r
theorem slotR_eq (x : Fin 21) (c : Dev nD) : slotR x c = nb (srcRel x - dstRel x) c := by revert x c; decide

/-- The devices, moved along a transfer. -/
def hop (x : Fin 21) : Dev nD ≃ Dev nD := ⟨tgt x, org x, org_tgt x, tgt_org x⟩

/-- The semaphore that counts transfer `x` out of a device. -/
def sSem (x : Fin 21) : DmaSem sig :=
  (![8, 9, 10, 11, 12, 13, 14, 15, 16, 17, 18, 19, 20, 21, 22, 23, 24, 25, 46, 44, 45] : Fin 21 → Fin 50) x
/-- The semaphore that counts transfer `x` into a device. -/
def rSem (x : Fin 21) : DmaSem sig :=
  (![26, 27, 28, 29, 30, 31, 32, 33, 34, 35, 36, 37, 38, 39, 40, 41, 42, 43, 49, 47, 48] : Fin 21 → Fin 50) x

/-- Which transfer a semaphore counts, and whether at its receiver. -/
def dec (q : Fin 50) : Option (Bool × Fin 21) :=
  if q.val < 8 then none
  else if q.val < 26 then some (false, Fin.ofNat 21 (q.val - 8))
  else if q.val < 44 then some (true, Fin.ofNat 21 (q.val - 26))
  else if q.val < 47 then some (false, Fin.ofNat 21 (18 + (q.val - 43) % 3))
  else some (true, Fin.ofNat 21 (18 + (q.val - 46) % 3))

theorem dec_sSem (x : Fin 21) : dec (sSem x) = some (false, x) := by revert x; decide
theorem dec_rSem (x : Fin 21) : dec (rSem x) = some (true, x) := by revert x; decide

/-- A number as a transfer. -/
abbrev tr (i : ℕ) : Fin 21 := Fin.ofNat 21 i

/-! ## The slots -/

abbrev aM : Memref sig .tc .vmem S3x4x512x256 .bf16 := Memref.whole cc0_scratch0
abbrev bM : Memref sig .tc .vmem S3x4x512x256 .bf16 := Memref.whole cc0_scratch1
abbrev gM : Memref sig .tc .vmem S4x512x256 .bf16 := Memref.whole cc0_scratch2

theorem lay_inb (k : Fin 3) (j : Fin 4) : ∀ a : Fin 4, (![k.val, j.val, 0, 0] : Fin 4 → ℕ) a + S1x1x512x256.size a ≤ S3x4x512x256.size a := by
  revert k j; decide
theorem gat_inb (j : Fin 4) : ∀ a : Fin 3, (![j.val, 0, 0] : Fin 3 → ℕ) a + S1x512x256.size a ≤ S4x512x256.size a := by
  revert j; decide

/-- Slot `j` of layer `k` of a weight buffer, as a rectangle of it. -/
abbrev layRect (k : Fin 3) (j : Fin 4) : Rect S3x4x512x256 := Rect.unit (s := S3x4x512x256) ![k.val, j.val, 0, 0] S1x1x512x256.size (lay_inb k j)
/-- Slot `j` of the result buffer, as a rectangle of it. -/
abbrev gatRect (j : Fin 4) : Rect S4x512x256 := Rect.unit (s := S4x512x256) ![j.val, 0, 0] S1x512x256.size (gat_inb j)

abbrev laySlot (M : Memref sig .tc .vmem S3x4x512x256 .bf16) (k : Fin 3) (j : Fin 4) : Memref sig .tc .vmem S512x256 .bf16 :=
  (M.slice (layRect k j) (fun _ => rfl)).squeeze S512x256 squeezes_S1x1x512x256_S512x256
abbrev gatSlot (M : Memref sig .tc .vmem S4x512x256 .bf16) (j : Fin 4) : Memref sig .tc .vmem S512x256 .bf16 :=
  (M.slice (gatRect j) (fun _ => rfl)).squeeze S512x256 squeezes_S1x512x256_S512x256

/-- Slot `j` of buffer layer `b`. -/
def bufSlot (b : Fin 7) (j : Dev nD) : Memref sig .tc .vmem S512x256 .bf16 :=
  match b with
  | 0 => laySlot aM 0 j | 1 => laySlot aM 1 j | 2 => laySlot aM 2 j
  | 3 => laySlot bM 0 j | 4 => laySlot bM 1 j | 5 => laySlot bM 2 j
  | 6 => gatSlot gM j

/-- A weight slot named by offsets that are the slot's own is that slot. -/
theorem laySlot_of (M : Memref sig .tc .vmem S3x4x512x256 .bf16) (k : Fin 3) (j : Fin 4) (off : Fin 4 → ℕ) (h : off = ![k.val, j.val, 0, 0])
    (inb : ∀ a : Fin 4, off a + S1x1x512x256.size a ≤ S3x4x512x256.size a) (h1 h2) :
    (M.slice (Rect.unit (s := S3x4x512x256) off S1x1x512x256.size inb) h1).squeeze S512x256 h2 = laySlot M k j := by
  subst h; rfl
theorem gatSlot_of (M : Memref sig .tc .vmem S4x512x256 .bf16) (j : Fin 4) (off : Fin 3 → ℕ) (h : off = ![j.val, 0, 0])
    (inb : ∀ a : Fin 3, off a + S1x512x256.size a ≤ S4x512x256.size a) (h1 h2) :
    (M.slice (Rect.unit (s := S4x512x256) off S1x512x256.size inb) h1).squeeze S512x256 h2 = gatSlot M j := by
  subst h; rfl

/-- What one transfer counts on its semaphores. -/
def N : ℕ := (bufSlot 0 0).view.dmaCredit
theorem N_pos : 0 < N := View.dmaCredit_pos _ (by decide)
theorem credit_eq (b : Fin 7) (j : Dev nD) : (bufSlot b j).view.dmaCredit = N := by
  fin_cases b <;> rfl

end Cert.Mlp

end
-- ==== Proof.Sched.lean ====
/-
The agreement between the devices: what each signal and each transfer hands over, and what a device still owes.

Every device has one barrier cell, which the three other devices signal once each, and for each of the 21 transfers a
cell counted at the sender and a cell counted at the receiver. A signal to a device hands it the slots of the
signalling device that it will write. A completed transfer gives the receiver its slot filled with the slot's content
and gives the sender back the share it lent. The contents `V` are a parameter.
-/
module

public import proofs.«01_k».proof.Proof.Slots
public import Idealize.ShloMosaic.Lib.Ring
public import Idealize.ShloMosaic.Lib.MemrefSat
public import Idealize.SL.BI.BigOpNat

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Cells -/

/-- The barrier semaphore of the kernel. -/
abbrev barS : Sem sig := (SemArray.scalar (sig.barrier 0 rfl) : Sems sig S_).sem

abbrev barCell (c : Dev nD) : GSem nD τ sig := ((c : Thread nD τ), .reg barS)
abbrev sendCell (c : Dev nD) (x : Fin 21) : GSem nD τ sig := ((c : Thread nD τ), .dma (sSem x))
abbrev recvCell (c : Dev nD) (x : Fin 21) : GSem nD τ sig := ((c : Thread nD τ), .dma (rSem x))

/-- A device's cells: the barrier, then the transfers out, then the transfers in. -/
abbrev Cix : Type := Option (Bool × Fin 21)
/-- The semaphore of a cell. -/
def csem : Cix → SemLoc sig
  | none => .reg barS
  | some (false, x) => .dma (sSem x)
  | some (true, x) => .dma (rSem x)
abbrev kcell (ck : Dev nD × Cix) : GSem nD τ sig := ((ck.1 : Thread nD τ), csem ck.2)

/-! ## Contents and shares -/

variable (V : Fin 7 → Dev nD → S512x256.Idx → Elt F .bf16)

/-- Share `q` of slot `j` of layer `b` on device `c`, holding the slot's content. -/
def slotAt (c : Dev nD) (b : Fin 7) (j : Dev nD) (q : PosShare TreeShare) : sProp 𝕄 := owns (c : Thread nD τ) (bufSlot b j) q (V b j)
/-- The whole of that slot at some content. -/
def slotAny (c : Dev nD) (b : Fin 7) (j : Dev nD) : sProp 𝕄 := iprop(∃ X : S512x256.Idx → Elt F .bf16, owns (c : Thread nD τ) (bufSlot b j) fullShare X)

omit [FloatOps F] in
instance slotAt_storable (c : Dev nD) (b : Fin 7) (j : Dev nD) (q : PosShare TreeShare) :
    BI.Storable (upEmb : UEmb _ 𝕄) (slotAt V c b j q) := by unfold slotAt; infer_instance
omit [FloatOps F] in
instance slotAny_storable (c : Dev nD) (b : Fin 7) (j : Dev nD) : BI.Storable (upEmb : UEmb _ 𝕄) (slotAny (F := F) c b j) := by
  unfold slotAny; infer_instance

/-- The share of its source that a transfer borrows. -/
def qs : Fin 21 → PosShare TreeShare := fun x =>
  if x.val = 18 then fullShare.left else if x.val = 19 then fullShare.right.left else if x.val = 20 then fullShare.right.right
  else if x.val % 6 = 2 ∨ x.val % 6 = 3 then fullShare.right.left else fullShare.left

/-! ## The schedule -/

/-- What the signal of device `c + r` to device `c` hands over: the slots of `c + r` that `c` will write. -/
def barPay (c : Dev nD) (r : Fin 4) : sProp 𝕄 :=
  bigSep (Finset.univ.filter fun x => dstRel x = r) fun x => slotAny (F := F) (tgt x c) (bufOf x) (slotS x c)
def sendPay (c : Dev nD) (x : Fin 21) : sProp 𝕄 := slotAt V c (bufOf x) (slotS x c) (qs x)
def recvPay (c : Dev nD) (x : Fin 21) : sProp 𝕄 := slotAt V c (bufOf x) (slotR x c) fullShare

/-- The duties of a cell: a barrier's three signals, a transfer's single completion. -/
def dutiesOf : SemLoc sig → Finset (Fin 4)
  | .reg s => if s = barS then {1, 2, 3} else ∅
  | .dma q => if (dec q).isSome then {0} else ∅
def amountOf' : SemLoc sig → ℕ
  | .reg _ => 1
  | .dma _ => N
def payOf (c : Dev nD) (r : Fin 4) : SemLoc sig → sProp 𝕄
  | .reg _ => barPay c r
  | .dma q => match dec q with
    | none => iprop(emp)
    | some (false, x) => sendPay V c x
    | some (true, x) => recvPay V c x

/-- One round in every cell. -/
def Rd : Rounds.Schedule (GSem nD τ sig) (Fin 4) 𝕄 where
  duties g r := if r = 0 ∧ g.1.2 = .tc then dutiesOf g.2 else ∅
  unitless _ := False
  amount g _ _ := amountOf' g.2
  payload g _ d := payOf V g.1.1 d g.2
  amount_pos g _ _ _ := by
    rcases g with ⟨t, s | s⟩
    · exact Nat.one_pos
    · exact N_pos

instance Rd_payload_storable (g : GSem nD τ sig) (r : ℕ) (d : Fin 4) : BI.Storable (upEmb : UEmb _ 𝕄) ((Rd V).payload g r d) := by
  show BI.Storable upEmb (payOf V g.1.1 d g.2)
  rcases g with ⟨t, s | q⟩
  · show BI.Storable upEmb (barPay t.1 d); unfold barPay; infer_instance
  · unfold payOf
    rcases h : dec q with _ | ⟨_ | _, x⟩
    · simp only [h]; infer_instance
    · simp only [h]; unfold sendPay; infer_instance
    · simp only [h]; unfold recvPay; infer_instance

section Sched
variable (c : Dev nD) (x : Fin 21)

omit [FloatOps F] in
theorem duties_bar : (Rd V).duties (barCell c) 0 = {1, 2, 3} := by
  dsimp only [Rd]; rw [if_pos ⟨rfl, rfl⟩]; simp only [dutiesOf]; exact if_pos trivial
omit [FloatOps F] in
theorem duties_send : (Rd V).duties (sendCell c x) 0 = {0} := by
  dsimp only [Rd]; rw [if_pos ⟨rfl, rfl⟩]; simp only [dutiesOf, dec_sSem]; rfl
omit [FloatOps F] in
theorem duties_recv : (Rd V).duties (recvCell c x) 0 = {0} := by
  dsimp only [Rd]; rw [if_pos ⟨rfl, rfl⟩]; simp only [dutiesOf, dec_rSem]; rfl
omit [FloatOps F] in
theorem duties_later (g : GSem nD τ sig) : ∀ r, 1 ≤ r → (Rd V).duties g r = ∅ :=
  fun r hr => by dsimp only [Rd]; rw [if_neg fun h => by omega]

omit [FloatOps F] in
theorem expect_bar : (Rd V).expect (barCell c) 0 = 3 := by
  unfold Schedule.expect Schedule.amountOf; rw [duties_bar]; rfl
omit [FloatOps F] in
theorem expect_send : (Rd V).expect (sendCell c x) 0 = N := by
  unfold Schedule.expect Schedule.amountOf; rw [duties_send, Finset.sum_singleton]; rfl
omit [FloatOps F] in
theorem expect_recv : (Rd V).expect (recvCell c x) 0 = N := by
  unfold Schedule.expect Schedule.amountOf; rw [duties_recv, Finset.sum_singleton]; rfl

omit [FloatOps F] in
theorem payload_send (d : Fin 4) : (Rd V).payload (sendCell c x) 0 d = sendPay V c x := by
  show payOf V c d (.dma (sSem x)) = _; unfold payOf; simp only [dec_sSem]
omit [FloatOps F] in
theorem payload_recv (d : Fin 4) : (Rd V).payload (recvCell c x) 0 d = recvPay V c x := by
  show payOf V c d (.dma (rSem x)) = _; unfold payOf; simp only [dec_rSem]
omit [FloatOps F] in
theorem rest_send : bigSep ((Rd V).duties (sendCell c x) 0 \ ∅) (fun d => (Rd V).payload (sendCell c x) 0 d) = sendPay V c x := by
  rw [Finset.sdiff_empty, duties_send, bigSep_singleton, payload_send]
omit [FloatOps F] in
theorem rest_recv : bigSep ((Rd V).duties (recvCell c x) 0 \ ∅) (fun d => (Rd V).payload (recvCell c x) 0 d) = recvPay V c x := by
  rw [Finset.sdiff_empty, duties_recv, bigSep_singleton, payload_recv]

omit [FloatOps F] in
/-- The three signals of a barrier together hand over every slot the device will write. -/
theorem rest_bar : bigSep ((Rd V).duties (barCell c) 0 \ ∅) (fun d => (Rd V).payload (barCell c) 0 d)
    = bigSep Finset.univ fun x : Fin 21 => slotAny (F := F) (tgt x c) (bufOf x) (slotS x c) := by
  rw [Finset.sdiff_empty, duties_bar, bigSep_fiberwise Finset.univ dstRel fun x => slotAny (F := F) (tgt x c) (bufOf x) (slotS x c)]
  rw [show (Finset.univ.image dstRel : Finset (Fin 4)) = {1, 2, 3} by decide]
  rfl

end Sched

/-! ## What a device owes, and the levels -/

/-- The completions device `c` owes when its first `n` transfers are under way. -/
def Ow (c : Dev nD) (n : ℕ) : CellTallies nD τ sig Unit := ∑ i ∈ Finset.Ico n 21, tallyAt (recvCell (tgt (tr i) c) (tr i)) () N
def bt (c : Dev nD) : CellTallies nD τ sig Unit := tallyAt (barCell c) () 1
def Oa (c : Dev nD) : CellTallies nD τ sig Unit := Ow c 0 + bt ((c : Fin 4) + 2)
def Ob (c : Dev nD) : CellTallies nD τ sig Unit := Oa c + bt ((c : Fin 4) + 1)
/-- At launch it owes all its transfers and a signal to each other device. -/
def O₀ (c : Dev nD) : CellTallies nD τ sig Unit := Ob c + bt ((c : Fin 4) + 3)

omit [FloatOps F] in
theorem Ow_succ (c : Dev nD) {n : ℕ} (h : n < 21) : Ow c n = Ow c (n + 1) + tallyAt (recvCell (tgt (tr n) c) (tr n)) () N := by
  unfold Ow
  rw [show Finset.Ico n 21 = insert n (Finset.Ico (n + 1) 21) by ext y; simp only [Finset.mem_Ico, Finset.mem_insert]; omega,
    Finset.sum_insert (by rw [Finset.mem_Ico]; omega), add_comm]
omit [FloatOps F] in
theorem Ow_end (c : Dev nD) : Ow c 21 = 0 := by unfold Ow; rw [Finset.Ico_self, Finset.sum_empty]

def L (g : GSem nD τ sig) : Finset Unit := if g.1.2 = .tc then {()} else ∅
/-- Barrier cells at 1, the receiver's cell of transfer `x` at `x + 2`, every other cell at 0. -/
def lv (g : GSem nD τ sig) (_ : Unit) : ℕ := match g.2 with
  | .reg _ => 1
  | .dma q => match dec q with
    | some (true, x) => x.val + 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (x : Fin 21) (u : Unit) : lv (recvCell c x) u = x.val + 2 := by
  show (match dec (rSem x) with | some (true, x) => x.val + 2 | _ => 0) = _; rw [dec_rSem]

omit [FloatOps F] in
theorem Ow_pos {c : Dev nD} {n : ℕ} {g : GSem nD τ sig} {u : Unit} (h : 0 < Ow c n g u) :
    ∃ i, n ≤ i ∧ i < 21 ∧ g = recvCell (tgt (tr i) c) (tr i) := by
  unfold Ow at h
  rw [Finset.sum_apply, Finsupp.finset_sum_apply] at h
  obtain ⟨i, hi, hne⟩ := Finset.exists_ne_zero_of_sum_ne_zero h.ne'
  rw [tallyAt_apply] at hne
  rw [Finset.mem_Ico] at hi
  exact ⟨i, hi.1, hi.2, by by_contra hg; exact hne (if_neg fun h' => hg h'.1)⟩

omit [FloatOps F] in
theorem bt_pos {c : Dev nD} {g : GSem nD τ sig} {u : Unit} (h : 0 < bt c g u) : g = barCell c := by
  unfold bt at h; rw [tallyAt_apply] at h; by_contra hg; rw [if_neg fun h' => hg h'.1] at h; exact Nat.lt_irrefl 0 h

omit [FloatOps F] in
theorem O₀_pos {c : Dev nD} {g : GSem nD τ sig} {u : Unit} (h : 0 < O₀ c g u) :
    (∃ d, g = barCell d) ∨ ∃ i, i < 21 ∧ g = recvCell (tgt (tr i) c) (tr i) := by
  unfold O₀ Ob Oa at h
  rw [Pi.add_apply, Finsupp.add_apply, Pi.add_apply, Finsupp.add_apply, Pi.add_apply, Finsupp.add_apply] at h
  by_cases h1 : 0 < bt ((c : Fin 4) + 3) g u
  · exact .inl ⟨_, bt_pos h1⟩
  by_cases h2 : 0 < bt ((c : Fin 4) + 1) g u
  · exact .inl ⟨_, bt_pos h2⟩
  by_cases h3 : 0 < bt ((c : Fin 4) + 2) g u
  · exact .inl ⟨_, bt_pos h3⟩
  obtain ⟨i, -, hi, hg⟩ := Ow_pos (c := c) (n := 0) (g := g) (u := u) (by omega)
  exact .inr ⟨i, hi, hg⟩

omit [FloatOps F] in
/-- A wait at a level below everything owed may proceed. -/
theorem mayWait_of (c : Dev nD) (sm : SemLoc sig) (O : CellTallies nD τ sig Unit)
    (hO : ∀ g u, 0 < O g u → (∃ (d : Dev nD) (s : SemLoc sig), g = ((d : Thread nD τ), s)) ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨⟨d, s, rfl⟩, -⟩ := hO g u hg; rw [L_tc]; exact Finset.mem_singleton_self _)
    (fun p hp => by rw [Finset.mem_singleton.mp hp])
    (fun g u hg => (hO g u hg).2)

omit [FloatOps F] in
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine mayWait_of c _ _ fun g u hg => ?_
    have hl : lv ((c : Thread nD τ), .dma q) () = 0 := by
      show (match dec q with | some (true, x) => x.val + 2 | _ => 0) = _; rw [hq]
    rw [hl]
    rcases O₀_pos hg with ⟨d, rfl⟩ | ⟨i, -, rfl⟩
    · exact ⟨⟨d, _, rfl⟩, Nat.one_pos⟩
    · exact ⟨⟨_, _, rfl⟩, by rw [lv_recv]; omega⟩
  · rw [MayWait_zero]; iintro -; iempintro

omit [FloatOps F] in
theorem mayWait_bar (c : Dev nD) : (levAts L lv : sProp 𝕄) ⊢ MayWait (c : Thread nD τ) (.reg barS) () (Ow c 0) :=
  mayWait_of c _ _ fun g u hg => by
    obtain ⟨i, -, -, rfl⟩ := Ow_pos hg
    exact ⟨⟨_, _, rfl⟩, by rw [lv_recv]; show 1 < _; omega⟩

omit [FloatOps F] in
/-- A device waits for transfer `x` when it owes later transfers only. -/
theorem mayWait_recv (c : Dev nD) (x : Fin 21) (n : ℕ) (h : x.val < n) :
    (levAts L lv : sProp 𝕄) ⊢ MayWait (c : Thread nD τ) (.dma (rSem x)) () (Ow c n) :=
  mayWait_of c _ _ fun g u hg => by
    obtain ⟨i, hi, hi', rfl⟩ := Ow_pos hg
    refine ⟨⟨_, _, rfl⟩, ?_⟩
    rw [lv_recv, lv_recv]
    have : (tr i).val = i := Nat.mod_eq_of_lt hi'
    omega

end Cert.Mlp

end
-- ==== Proof.Access.lean ====
/-
How the kernel's loads and stores meet the slots: a load of a whole slot gives its content, two stores of half a slot
each fill it.
-/
module

public import proofs.«01_k».proof.Proof.Sched
public import Idealize.ShloMosaic.Lib.Pipeline.Value

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the elements of a slot lie -/

/-- The index of a weight buffer at which element `i` of slot `j` of layer `k` lies. -/
def layIdx (k : Fin 3) (j : Fin 4) (i : S512x256.Idx) : S3x4x512x256.Idx :=
  Fin.cons (α := fun a => Fin (S3x4x512x256.size a)) k (Fin.cons (α := fun a : Fin 3 => Fin (S3x4x512x256.size a.succ)) j i)
/-- The index of the result buffer at which element `i` of slot `j` lies. -/
def gatIdx (j : Fin 4) (i : S512x256.Idx) : S4x512x256.Idx :=
  Fin.cons (α := fun a => Fin (S4x512x256.size a)) j i

/-- An index of a chunk, with the unit axes of a slot before it. -/
def oneIdx (i : S512x256.Idx) : S1x1x512x256.Idx :=
  Fin.cons (α := fun a => Fin (S1x1x512x256.size a)) ⟨0, Nat.one_pos⟩ (Fin.cons (α := fun a : Fin 3 => Fin (S1x1x512x256.size a.succ)) ⟨0, Nat.one_pos⟩ i)

theorem rowMajor_one (i : S512x256.Idx) : (S1x1x512x256.rowMajor (oneIdx i)).val = (S512x256.rowMajor i).val := by
  show (Shape.rowMajorPi _ (oneIdx i)).val = (Shape.rowMajorPi _ i).val
  unfold oneIdx
  rw [Shape.rowMajorPi_succ_val, Shape.rowMajorPi_succ_val]
  show 0 * _ + (0 * _ + (Shape.rowMajorPi _ i).val) = _
  omega

theorem layRect_emb (k : Fin 3) (j : Fin 4) (i : S512x256.Idx) : (layRect k j).emb (oneIdx i) = layIdx k j i := by
  refine funext fun a => Fin.ext ?_
  fin_cases a
  · show k.val + 1 * 0 = k.val; omega
  · show j.val + 1 * 0 = j.val; omega
  · show 0 + 1 * (i 0).val = (i 0).val; omega
  · show 0 + 1 * (i 1).val = (i 1).val; omega

variable (M : Memref sig .tc .vmem S3x4x512x256 .bf16) (G : Memref sig .tc .vmem S4x512x256 .bf16)

omit [FloatOps F] in
theorem read_laySlot (k : Fin 3) (j : Fin 4) (f : M.view.ty.Contents (Elt F)) (i : S512x256.Idx) :
    (laySlot M k j).view.read (Elt F) f i = M.view.read (Elt F) f (layIdx k j i) := by
  have h : (laySlot M k j).view.read (Elt F) f = shapeCast S512x256 (M.view.readAt (Elt F) (layRect k j).toLoadRect f) shapeCasts_S1x1x512x256_S512x256 :=
    Memref.read_squeeze_slice M _ _ _ _ f
  rw [h, shapeCast_apply _ _ i (oneIdx i) (rowMajor_one i), View.readAt_rect]
  show M.view.read (Elt F) f ((layRect k j).emb (oneIdx i)) = _
  rw [layRect_emb]

omit [FloatOps F] in
theorem lay_set (k : Fin 3) (j : Fin 4) : (laySlot M k j).view.set = (layRect k j).set.map M.view.emb := by
  show ((M.view.slice (layRect k j)).reshape S512x256 _).set = _
  rw [View.set_reshape, View.set_slice]
omit [FloatOps F] in
theorem gat_set (j : Fin 4) : (gatSlot G j).view.set = (gatRect j).set.map G.view.emb := by
  show ((G.view.slice (gatRect j)).reshape S512x256 _).set = _
  rw [View.set_reshape, View.set_slice]

/-! ## Loading a slot -/

/-- A chunk with the unit axes of a slot. -/
def up4 (X : S512x256.Idx → Elt F .bf16) : Vec F S1x1x512x256 .bf16 := shapeCast S1x1x512x256 X (by decide +kernel)
def up3 (X : S512x256.Idx → Elt F .bf16) : Vec F S1x512x256 .bf16 := shapeCast S1x512x256 X (by decide +kernel)

section
variable (c : Dev nD) (q : PosShare TreeShare) (X : S512x256.Idx → Elt F .bf16)

/-- A load of a whole weight slot gives its content. -/
theorem wp_load_lay {α : Type} {Q : α → sProp 𝕄} (k : Fin 3) (j : Fin 4) {off : Fin 4 → ℕ} (hoff : off = ![k.val, j.val, 0, 0])
    {inb : ∀ a : Fin 4, off a + S1x1x512x256.size a ≤ S3x4x512x256.size a} {hl}
    {p : Vec F S1x1x512x256 .bf16 → Prog (TpuEff nD τ sig (Elt F) Λ₀ .tc) α} :
    owns (c : Thread nD τ) (laySlot M k j) q X
      ⊢ iprop((owns (c : Thread nD τ) (laySlot M k j) q X -∗ wp frame (wpE (defs₀ (F := F)) 𝒱₀ (c : Thread nD τ) none) Set.univ (p (up4 X)) Q)
          -∗ wp frame (wpE (defs₀ (F := F)) 𝒱₀ (c : Thread nD τ) none) Set.univ
              (.op (.load M (Rect.unit (s := S3x4x512x256) off S1x1x512x256.size inb).toLoadRect hl) p) Q) := by
  subst hoff
  unfold owns
  iintro ⟨%f, %hf, H⟩ Hk
  iapply (wp_load 𝒱₀ (c : Thread nD τ) none Set.univ (m := M) (S := (laySlot M k j).view.set) (f := f) (q := q)
    (by rw [lay_set]; exact Finset.Subset.refl _)) $$ H
  iintro H
  have hX : M.view.readAt (Elt F) (layRect k j).toLoadRect f = up4 X := by
    have h : (laySlot M k j).view.read (Elt F) f = shapeCast S512x256 (M.view.readAt (Elt F) (layRect k j).toLoadRect f) shapeCasts_S1x1x512x256_S512x256 :=
      Memref.read_squeeze_slice M _ _ _ _ f
    rw [← hf, h]; unfold up4; exact (shapeCast_shapeCast _ _ _).symm
  rw [hX]
  iapply Hk
  iexists f
  isplitr; · ipureintro; exact hf
  iexact H

/-- A load of a whole result slot gives its content. -/
theorem wp_load_gat {α : Type} {Q : α → sProp 𝕄} (j : Fin 4) {off : Fin 3 → ℕ} (hoff : off = ![j.val, 0, 0])
    {inb : ∀ a : Fin 3, off a + S1x512x256.size a ≤ S4x512x256.size a} {hl}
    {p : Vec F S1x512x256 .bf16 → Prog (TpuEff nD τ sig (Elt F) Λ₀ .tc) α} :
    owns (c : Thread nD τ) (gatSlot G j) q X
      ⊢ iprop((owns (c : Thread nD τ) (gatSlot G j) q X -∗ wp frame (wpE (defs₀ (F := F)) 𝒱₀ (c : Thread nD τ) none) Set.univ (p (up3 X)) Q)
          -∗ wp frame (wpE (defs₀ (F := F)) 𝒱₀ (c : Thread nD τ) none) Set.univ
              (.op (.load G (Rect.unit (s := S4x512x256) off S1x512x256.size inb).toLoadRect hl) p) Q) := by
  subst hoff
  unfold owns
  iintro ⟨%f, %hf, H⟩ Hk
  iapply (wp_load 𝒱₀ (c : Thread nD τ) none Set.univ (m := G) (S := (gatSlot G j).view.set) (f := f) (q := q)
    (by rw [gat_set]; exact Finset.Subset.refl _)) $$ H
  iintro H
  have hX : G.view.readAt (Elt F) (gatRect j).toLoadRect f = up3 X := by
    have h : (gatSlot G j).view.read (Elt F) f = shapeCast S512x256 (G.view.readAt (Elt F) (gatRect j).toLoadRect f) shapeCasts_S1x512x256_S512x256 :=
      Memref.read_squeeze_slice G _ _ _ _ f
    rw [← hf, h]; unfold up3; exact (shapeCast_shapeCast _ _ _).symm
  rw [hX]
  iapply Hk
  iexists f
  isplitr; · ipureintro; exact hf
  iexact H

/-! ## Filling a slot -/

/-- The rectangle of 256 rows of a slot from row `o` on. -/
abbrev rowsRect (off : Fin 4 → ℕ) (inb : ∀ a : Fin 4, off a + S1x1x256x256.size a ≤ S3x4x512x256.size a) : Rect S3x4x512x256 :=
  Rect.unit (s := S3x4x512x256) off S1x1x256x256.size inb

/-- A chunk with 256 rows from row `o` on replaced. -/
def put (o : ℕ) (X : S512x256.Idx → Elt F .bf16) (w : S256x256.Idx → Elt F .bf16) : S512x256.Idx → Elt F .bf16 := fun i =>
  if h : o ≤ (i 0).val ∧ (i 0).val < o + 256 then w (Fin.cons (α := fun a => Fin (S256x256.size a)) ⟨(i 0).val - o, by show _ < 256; omega⟩ (fun a => i a.succ)) else X i

def smallIdx (i : S256x256.Idx) : S1x1x256x256.Idx :=
  Fin.cons (α := fun a => Fin (S1x1x256x256.size a)) ⟨0, Nat.one_pos⟩ (Fin.cons (α := fun a : Fin 3 => Fin (S1x1x256x256.size a.succ)) ⟨0, Nat.one_pos⟩ i)

theorem rowMajor_small (i : S256x256.Idx) : (S1x1x256x256.rowMajor (smallIdx i)).val = (S256x256.rowMajor i).val := by
  show (Shape.rowMajorPi _ (smallIdx i)).val = (Shape.rowMajorPi _ i).val
  unfold smallIdx
  rw [Shape.rowMajorPi_succ_val, Shape.rowMajorPi_succ_val]
  show 0 * _ + (0 * _ + (Shape.rowMajorPi _ i).val) = _
  omega

omit [FloatOps F] in
theorem rows_subset (k : Fin 3) (j : Fin 4) (o : ℕ) (inb : ∀ a : Fin 4, (![k.val, j.val, o, 0] : Fin 4 → ℕ) a + S1x1x256x256.size a ≤ S3x4x512x256.size a) :
    (rowsRect ![k.val, j.val, o, 0] inb).set ⊆ (layRect k j).set := by
  intro y hy
  rw [Rect.mem_set_unit] at hy ⊢
  intro a
  have h := hy a
  have hi := inb a
  have hb := (y a).isLt
  revert h hi hb
  generalize y a = z
  fin_cases a <;> intro h hi hb <;> simp at h hi hb ⊢ <;> omega

/-- A store of 256 rows into a weight slot. -/
theorem wp_store_rows {α : Type} {Q : α → sProp 𝕄} (k : Fin 3) (j : Fin 4) (o : ℕ) {off : Fin 4 → ℕ} (hoff : off = ![k.val, j.val, o, 0])
    {inb : ∀ a : Fin 4, off a + S1x1x256x256.size a ≤ S3x4x512x256.size a} (w : S256x256.Idx → Elt F .bf16) {hx hm}
    {p : PUnit → Prog (TpuEff nD τ sig (Elt F) Λ₀ .tc) α} :
    owns (c : Thread nD τ) (laySlot M k j) fullShare X
      ⊢ iprop((owns (c : Thread nD τ) (laySlot M k j) fullShare (put o X w) -∗ wp frame (wpE (defs₀ (F := F)) 𝒱₀ (c : Thread nD τ) none) Set.univ (p ⟨⟩) Q)
          -∗ wp frame (wpE (defs₀ (F := F)) 𝒱₀ (c : Thread nD τ) none) Set.univ
              (.op (.store M (Rect.unit (s := S3x4x512x256) off S1x1x256x256.size inb) (shapeCast S1x1x256x256 w shapeCasts_S256x256_S1x1x256x256) Finset.univ hx hm) p) Q) := by
  subst hoff
  unfold owns
  iintro ⟨%f, %hf, H⟩ Hk
  iapply (wp_store 𝒱₀ (c : Thread nD τ) none Set.univ (m := M) (r := rowsRect ![k.val, j.val, o, 0] inb) (Mk := Finset.univ)
    (S := (laySlot M k j).view.set) (f := f) (by
      rw [lay_set]
      show (M.view.slice (rowsRect ![k.val, j.val, o, 0] inb)).set ⊆ _
      rw [View.set_slice]
      exact Finset.map_subset_map.mpr (rows_subset k j o inb))) $$ H
  iintro H
  iapply Hk
  iexists _
  isplitr
  rotate_left
  · iexact H
  ipureintro
  refine funext fun i => ?_
  rw [read_laySlot]
  show M.view.read (Elt F) ((M.view.slice (rowsRect ![k.val, j.val, o, 0] inb)).write (Elt F) f _ Finset.univ) _ = _
  unfold put
  split
  · rename_i h
    have he : layIdx k j i = (rowsRect ![k.val, j.val, o, 0] inb).emb
        (smallIdx (Fin.cons (α := fun a => Fin (S256x256.size a)) ⟨(i 0).val - o, by show _ < 256; omega⟩ (fun a => i a.succ))) := by
      refine funext fun a => Fin.ext ?_
      fin_cases a
      · show k.val = k.val + 1 * 0; omega
      · show j.val = j.val + 1 * 0; omega
      · show (i 0).val = o + 1 * ((i 0).val - o); omega
      · show (i 1).val = 0 + 1 * (i 1).val; omega
    rw [he, View.read_slice_write_emb _ _ _ (Finset.mem_univ _)]
    exact shapeCast_apply _ _ _ _ (rowMajor_small _).symm
  · rename_i h
    rw [View.read_slice_write_of_not_mem, ← hf, read_laySlot]
    rw [Rect.map_emb_univ, Rect.mem_set_unit]
    intro hall
    exact h (hall 2)

/-- A load of 256 rows of a weight slot gives some value. -/
theorem wp_load_rows {α : Type} {Q : α → sProp 𝕄} (k : Fin 3) (j : Fin 4) (o : ℕ) {off : Fin 4 → ℕ} (hoff : off = ![k.val, j.val, o, 0])
    {inb : ∀ a : Fin 4, off a + S1x1x256x256.size a ≤ S3x4x512x256.size a} {hl}
    {p : Vec F S1x1x256x256 .bf16 → Prog (TpuEff nD τ sig (Elt F) Λ₀ .tc) α} :
    owns (c : Thread nD τ) (laySlot M k j) fullShare X
      ⊢ iprop((∀ v, owns (c : Thread nD τ) (laySlot M k j) fullShare X -∗ wp frame (wpE (defs₀ (F := F)) 𝒱₀ (c : Thread nD τ) none) Set.univ (p v) Q)
          -∗ wp frame (wpE (defs₀ (F := F)) 𝒱₀ (c : Thread nD τ) none) Set.univ
              (.op (.load M (Rect.unit (s := S3x4x512x256) off S1x1x256x256.size inb).toLoadRect hl) p) Q) := by
  subst hoff
  unfold owns
  iintro ⟨%f, %hf, H⟩ Hk
  iapply (wp_load 𝒱₀ (c : Thread nD τ) none Set.univ (m := M) (S := (laySlot M k j).view.set) (f := f) (q := fullShare)
    (by rw [lay_set]; exact Finset.map_subset_map.mpr (rows_subset k j o inb))) $$ H
  iintro H
  iapply Hk
  iexists f
  isplitr; · ipureintro; exact hf
  iexact H

end

end Cert.Mlp

end
-- ==== Proof.Steps.lean ====
/-
The state of a device between two instructions, and the instructions that change it: a transfer out, the wait for a
transfer in, the wait for a transfer out.
-/
module

public import proofs.«01_k».proof.Proof.Access
public import Idealize.SL.BI.BigOpNat

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 7 → Dev nD → S512x256.Idx → Elt F .bf16) (K : Dev nD × Cix → ℕ)

/-! ## What every instruction may use -/

/-- Every cell's invariant, and that every cell has reached its round. -/
def records : sProp 𝕄 :=
  iprop((bigSep Finset.univ fun ck : Dev nD × Cix => cellInv ER (Rd V) (K ck) (kcell ck))
    ∗ bigSep Finset.univ fun ck : Dev nD × Cix => reached ER (kcell ck) 0)
instance records_persistent : BI.Persistent (records V K) := by unfold records; infer_instance

def Base : sProp 𝕄 := iprop(records V K ∗ levAts L lv)
instance base_persistent : BI.Persistent (Base V K) := by unfold Base; infer_instance

omit [FloatOps F] in
theorem inv_at (ck : Dev nD × Cix) :
    (bigSep Finset.univ fun ck : Dev nD × Cix => (cellInv ER (Rd V) (K ck) (kcell ck) : sProp 𝕄)) ⊢ cellInv ER (Rd V) (K ck) (kcell ck) :=
  bigSep_elim (Finset.mem_univ ck)
omit [FloatOps F] in
theorem reached_at (ck : Dev nD × Cix) :
    (bigSep Finset.univ fun ck : Dev nD × Cix => (reached ER (kcell ck) 0 : sProp 𝕄)) ⊢ reached ER (kcell ck) 0 :=
  bigSep_elim (Finset.mem_univ ck)
omit [FloatOps F] in
theorem base_inv (ck : Dev nD × Cix) : Base V K ⊢ cellInv ER (Rd V) (K ck) (kcell ck) := by
  unfold Base records
  iintro ⟨⟨H, -⟩, -⟩
  iapply (inv_at V K ck); iexact H
omit [FloatOps F] in
theorem base_reached (ck : Dev nD × Cix) : Base V K ⊢ reached ER (kcell ck) 0 := by
  unfold Base records
  iintro ⟨⟨-, H⟩, -⟩
  iapply (reached_at (F := F) ck); iexact H
omit [FloatOps F] in
theorem base_lev : Base V K ⊢ levAts L lv := by
  unfold Base; iintro ⟨-, H⟩; iexact H

/-! ## The state -/

variable (c : Dev nD)

/-- What transfer `x` needs, besides its source. -/
def Rdy (x : Fin 21) : sProp 𝕄 :=
  iprop(dutyTok ER (sendCell c x) 0 0 ∗ dutyTok ER (recvCell (tgt x c) x) 0 0 ∗ slotAny (F := F) (tgt x c) (bufOf x) (slotS x c)
    ∗ atPos ER (sendCell c x) 0 ∅ 0)
/-- Transfer `x` is under way. -/
def Flt (x : Fin 21) : sProp 𝕄 := iprop(cred (tallyAt (sendCell c x) () N) ∗ atPos ER (sendCell c x) 0 ∅ 0)
/-- Transfer `x` has been waited for, its source is back. -/
def Dn (x : Fin 21) : sProp 𝕄 := iprop(semVal (sendCell c x) 0 ∗ slotAt V c (bufOf x) (slotS x c) (qs x))
/-- Transfer `x` to this device has not been waited for. -/
def Awt (x : Fin 21) : sProp 𝕄 := iprop(cred (tallyAt (recvCell c x) () N) ∗ atPos ER (recvCell c x) 0 ∅ 0)
/-- The share of what transfer `x` brought that this device keeps. -/
def qg (x : Fin 21) : PosShare TreeShare := if fwd x then fullShare.right else fullShare
/-- Transfer `x` to this device has been waited for. -/
def Got (x : Fin 21) : sProp 𝕄 := iprop(semVal (recvCell c x) 0 ∗ slotAt V c (bufOf x) (slotR x c) (qg x))

/-- The state of a device that has started `s` transfers, waited for `w` of them and for `r` of those it receives. -/
def St (s w r : ℕ) : sProp 𝕄 :=
  iprop(Base V K ∗ (∃ W : Waits sig Unit, owes (c : Thread nD τ) (Ow c s) W)
    ∗ bigSep (Finset.Ico s 21) (fun i => Rdy (F := F) c (tr i))
    ∗ bigSep (Finset.Ico w s) (fun i => Flt (F := F) c (tr i))
    ∗ bigSep (Finset.range w) (fun i => Dn V c (tr i))
    ∗ bigSep (Finset.Ico r 21) (fun i => Awt (F := F) c (ord (tr i)))
    ∗ bigSep (Finset.range r) (fun i => Got V c (ord (tr i))))

variable {V K}
variable {s w r : ℕ}

/-- A transfer, given its source. -/
theorem step_send {α : Type} {Q : α → sProp 𝕄} (x : Fin 21) (b : Fin 7) (j : Dev nD) (q : PosShare TreeShare)
    (hs : s < 21) (hx : tr s = x) (hw : w ≤ s) (hb : bufOf x = b) (hj : slotS x c = j) (hq : qs x = q)
    {src dst : Memref sig .tc .vmem S512x256 .bf16} (hsrc : src = bufSlot b j) (hdst : dst = bufSlot b j)
    {d : Dev nD} (hd : d = tgt x c) {sS sR : DmaSem sig} (hsS : sS = sSem x) (hsR : sR = rSem x)
    {hsc : (dst : Memref sig (Dev.tc d : Thread nD τ).2.kind .vmem S512x256 .bf16).view.ref.isScScratch = false}
    {h1 : src.view.WordExact} {h2 : (dst : Memref sig (Dev.tc d : Thread nD τ).2.kind .vmem S512x256 .bf16).view.WordExact}
    {h3 : DmaTarget.Typed .vmem (.dma sR) (.remote (Dev.tc d : Thread nD τ) (dst : Memref sig .tc .vmem S512x256 .bf16) (.dma sS) hsc)}
    {p : PUnit → Prog (TpuEff nD τ sig (Elt F) Λ₀ .tc) α} :
    St V K c s w r
      ⊢ iprop(slotAt V c b j q -∗ (St V K c (s + 1) w r -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma src (.remote (Dev.tc d : Thread nD τ) dst (.dma sS) hsc) (.dma sR) h1 h2 h3) p) Q) := by
  subst hb hj hq hsrc hd hsS hsR
  obtain rfl := hdst
  unfold St
  rw [bigSep_Ico_succ_bot hs, bigSep_Ico_succ_top hw, hx]
  unfold Rdy slotAt slotAny owns
  iintro ⟨#HB, ⟨%W, HO⟩, ⟨⟨HtS, HtR, ⟨%X, %fd, -, Hd⟩, Hat⟩, Hrdy⟩, Hflt, Hrest⟩ ⟨%fs, %hfs, Hsrc⟩ Hk
  iapply (Rounds.wp_send_pointsTo 𝒱₀ ER (Rd V) (c : Thread nD τ) none (κ₁ := K (c, some (false, x))) (κ₂ := K (tgt x c, some (true, x)))
      (r₁ := 0) (r₂ := 0) (d₁ := 0) (d₂ := 0) (fd := fd) (fs := fs) (q := qs x)
      (by rw [duties_send]; exact Finset.mem_singleton_self _) (by rw [duties_recv]; exact Finset.mem_singleton_self _)
      () () N (by exact credit_eq (bufOf x) (slotS x c)) rfl rfl (O₀ := Ow c s) (Ow c (s + 1)) (by rw [Ow_succ c hs, hx]) (W := W)
      (by
        rw [payload_send]; unfold sendPay slotAt owns
        iintro H; iexists fs; isplitr; · (ipureintro; exact hfs)
        iexact H)
      (by
        rw [payload_recv, show recvPay V (tgt x c) x = slotAt V (tgt x c) (bufOf x) (slotS x c) fullShare by unfold recvPay; rw [slotR_tgt]]
        unfold slotAt owns
        iintro H; iexists _; isplitr
        rotate_left
        · iexact H
        · ipureintro; rw [View.read_write_univ]; exact hfs))
    $$ [HO HtS HtR Hd Hsrc]
  · isplitr; · iapply (base_inv V K (c, some (false, x))); iexact HB
    isplitr; · iapply (base_inv V K (tgt x c, some (true, x))); iexact HB
    isplitl [Hsrc]; · iexact Hsrc
    isplitl [Hd]; · iexact Hd
    isplitl [HO]; · iexact HO
    isplitl [HtS]; · iexact HtS
    isplitr; · iapply (base_reached V K (c, some (false, x))); iexact HB
    isplitl [HtR]; · iexact HtR
    iapply (base_reached V K (tgt x c, some (true, x))); iexact HB
  iintro ⟨Hc, HO⟩
  iapply Hk
  isplitr; · iexact HB
  isplitl [HO]; · iexists W; iexact HO
  isplitl [Hrdy]; · iexact Hrdy
  isplitl [Hc Hat Hflt]
  · isplitl [Hc Hat]
    · unfold Flt; isplitl [Hc]; · iexact Hc
      iexact Hat
    iexact Hflt
  iexact Hrest

/-- What the wait for transfer `x` leaves: the state, but for what the transfer brought. -/
theorem step_recv_aux {α : Type} {Q : α → sProp 𝕄} (x : Fin 21) (hr : r < 21) (hx : ord (tr r) = x) (hlt : x.val < s)
    {κ' : Kind} {rf : Ref sig κ'} {sh : Shape} {e : EltTy} (hdst : rf.dmaCredit sh e = N) {sR : DmaSem sig} (hsR : sR = rSem x) {hk}
    {p : PUnit → Prog (TpuEff nD τ sig (Elt F) Λ₀ .tc) α} :
    St V K c s w r
      ⊢ iprop((((semVal (recvCell c x) 0 ∗ slotAt V c (bufOf x) (slotR x c) (qg x)) -∗ St V K c s w (r + 1))
            -∗ semVal (recvCell c x) 0 -∗ slotAt V c (bufOf x) (slotR x c) fullShare
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma sR rf sh e hk) p) Q) := by
  subst hsR
  unfold St
  rw [bigSep_Ico_succ_bot hr, bigSep_range_succ, hx]
  unfold Awt
  iintro ⟨#HB, ⟨%W, HO⟩, Hrdy, Hflt, Hdn, ⟨⟨Hc, Hat⟩, Hawt⟩, Hgot⟩ Hk
  iapply (Rounds.wp_wait_rest_token 𝒱₀ ER (Rd V) (c : Thread nD τ) none (κ := K (c, some (true, x)))
      (wpE_waitDma_eq 𝒱₀ (c : Thread nD τ) none Set.univ) (Set.mem_univ _) () (O := Ow c s) (W := W) (R := 0) (m := 0) (T := ∅)
      (by rw [Nat.zero_add, expect_recv]; exact hdst)) $$ [Hc HO Hat]
  · isplitr; · iapply (base_inv V K (c, some (true, x))); iexact HB
    isplitl [Hc]; · rw [hdst]; iexact Hc
    isplitl [HO]; · iexact HO
    isplitr; · iapply (mayWait_recv c x s hlt); iapply (base_lev V K); iexact HB
    iexact Hat
  iintro ⟨HO, Hat, -, Hpay⟩
  imod (Rounds.cell_close ER (Rd V) (Set.mem_univ (K (c, some (true, x)))) (fun h => h) (R := 0 + 1) (duties_later V (recvCell c x))) $$ [Hat] with Hz
  · isplitr; · iapply (base_inv V K (c, some (true, x))); iexact HB
    iexact Hat
  ihave Hp := (Entails.of_eq ((rest_recv V c x).trans (by rfl : recvPay V c x = slotAt V c (bufOf x) (slotR x c) fullShare))) $$ Hpay
  iapply Hk $$ [HO Hrdy Hflt Hdn Hawt Hgot] Hz Hp
  iintro Hg
  isplitr; · iexact HB
  isplitl [HO]; · iexists _; iexact HO
  isplitl [Hrdy]; · iexact Hrdy
  isplitl [Hflt]; · iexact Hflt
  isplitl [Hdn]; · iexact Hdn
  isplitl [Hawt]; · iexact Hawt
  isplitl [Hg]; · unfold Got; iexact Hg
  iexact Hgot

/-- The wait for a transfer that is not passed on. -/
theorem step_recv {α : Type} {Q : α → sProp 𝕄} (x : Fin 21) (hr : r < 21) (hx : ord (tr r) = x) (hlt : x.val < s) (hf : fwd x = false)
    {κ' : Kind} {rf : Ref sig κ'} {sh : Shape} {e : EltTy} (hdst : rf.dmaCredit sh e = N) {sR : DmaSem sig} (hsR : sR = rSem x) {hk}
    {p : PUnit → Prog (TpuEff nD τ sig (Elt F) Λ₀ .tc) α} :
    St V K c s w r
      ⊢ iprop((St V K c s w (r + 1) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma sR rf sh e hk) p) Q) := by
  iintro H Hk
  iapply (step_recv_aux c x hr hx hlt hdst hsR (Q := Q) (p := p)) $$ H
  iintro HS Hz Hp
  iapply Hk
  iapply HS
  isplitl [Hz]; · iexact Hz
  rw [show qg x = fullShare by unfold qg; rw [hf]; rfl]
  iexact Hp

/-- The wait for a transfer that is passed on: half of what it brought is free for that. -/
theorem step_recv_fwd {α : Type} {Q : α → sProp 𝕄} (x : Fin 21) (b : Fin 7) (j : Dev nD) (hr : r < 21) (hx : ord (tr r) = x) (hlt : x.val < s) (hf : fwd x = true)
    (hb : bufOf x = b) (hj : slotR x c = j)
    {κ' : Kind} {rf : Ref sig κ'} {sh : Shape} {e : EltTy} (hdst : rf.dmaCredit sh e = N) {sR : DmaSem sig} (hsR : sR = rSem x) {hk}
    {p : PUnit → Prog (TpuEff nD τ sig (Elt F) Λ₀ .tc) α} :
    St V K c s w r
      ⊢ iprop((St V K c s w (r + 1) -∗ slotAt V c b j fullShare.left
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma sR rf sh e hk) p) Q) := by
  iintro H Hk
  iapply (step_recv_aux c x hr hx hlt hdst hsR (Q := Q) (p := p)) $$ H
  iintro HS Hz Hp
  unfold slotAt
  ihave Hp' := ((owns_halves (c : Thread nD τ) (bufSlot (bufOf x) (slotR x c)) fullShare (V (bufOf x) (slotR x c))).1) $$ Hp
  icases Hp' with ⟨Hl, Hrr⟩
  rw [hb, hj, show qg x = fullShare.right by unfold qg; rw [hf]; rfl]
  iapply Hk $$ [HS Hz Hrr] Hl
  iapply HS
  isplitl [Hz]; · iexact Hz
  iexact Hrr

/-- The wait for a transfer out, after all have started. -/
theorem step_sent {α : Type} {Q : α → sProp 𝕄} (x : Fin 21) (hw : w < 21) (hx : tr w = x)
    {κ' : Kind} {rf : Ref sig κ'} {sh : Shape} {e : EltTy} (hdst : rf.dmaCredit sh e = N) {sS : DmaSem sig} (hsS : sS = sSem x) {hk}
    {p : PUnit → Prog (TpuEff nD τ sig (Elt F) Λ₀ .tc) α} :
    St V K c 21 w r
      ⊢ iprop((St V K c 21 (w + 1) r -∗ wp frame (wpE (defs₀ (F := F)) 𝒱₀ (c : Thread nD τ) none) Set.univ (p ⟨⟩) Q)
          -∗ wp frame (wpE (defs₀ (F := F)) 𝒱₀ (c : Thread nD τ) none) Set.univ (.op (.waitDma sS rf sh e hk) p) Q) := by
  subst hsS
  unfold St
  rw [bigSep_Ico_succ_bot hw, bigSep_range_succ, hx, Ow_end]
  unfold Flt
  iintro ⟨#HB, ⟨%W, HO⟩, Hrdy, ⟨⟨Hc, Hat⟩, Hflt⟩, Hdn, Hrest⟩ Hk
  iapply (Rounds.wp_wait_rest_token 𝒱₀ ER (Rd V) (c : Thread nD τ) none (κ := K (c, some (false, x)))
      (wpE_waitDma_eq 𝒱₀ (c : Thread nD τ) none Set.univ) (Set.mem_univ _) () (O := 0) (W := W) (R := 0) (m := 0) (T := ∅)
      (by rw [Nat.zero_add, expect_send]; exact hdst)) $$ [Hc HO Hat]
  · isplitr; · iapply (base_inv V K (c, some (false, x))); iexact HB
    isplitl [Hc]; · rw [hdst]; iexact Hc
    isplitl [HO]; · iexact HO
    isplitr; · rw [MayWait_zero]; iempintro
    iexact Hat
  iintro ⟨HO, Hat, -, Hpay⟩
  imod (Rounds.cell_close ER (Rd V) (Set.mem_univ (K (c, some (false, x)))) (fun h => h) (R := 0 + 1) (duties_later V (sendCell c x))) $$ [Hat] with Hz
  · isplitr; · iapply (base_inv V K (c, some (false, x))); iexact HB
    iexact Hat
  ihave Hp := (Entails.of_eq (rest_send V c x)) $$ Hpay
  iapply Hk
  isplitr; · iexact HB
  isplitl [HO]; · iexists _; iexact HO
  isplitl [Hrdy]; · iexact Hrdy
  isplitl [Hflt]; · iexact Hflt
  isplitl [Hz Hp Hdn]
  · isplitl [Hz Hp]
    · unfold Dn; isplitl [Hz]; · iexact Hz
      unfold sendPay; iexact Hp
    iexact Hdn
  iexact Hrest

omit [FloatOps F] in
/-- A run over the numbers below `r`, one of them set apart. -/
theorem bigSep_range_at {r i : ℕ} (hi : i < r) (Φ : ℕ → sProp 𝕄) :
    bigSep (Finset.range r) Φ = iprop(Φ i ∗ bigSep ((Finset.range r).erase i) Φ) := bigSep_erase (Finset.mem_range.mpr hi)

/-- What has been received may be borrowed. -/
theorem St_got (i : ℕ) (hi : i < r) (x : Fin 21) (hx : ord (tr i) = x) :
    St V K c s w r ⊢ iprop(slotAt V c (bufOf x) (slotR x c) (qg x) ∗ (slotAt V c (bufOf x) (slotR x c) (qg x) -∗ St V K c s w r)) := by
  unfold St
  rw [bigSep_range_at hi, show Got V c (ord (tr i)) = iprop(semVal (recvCell c x) 0 ∗ slotAt V c (bufOf x) (slotR x c) (qg x)) by rw [hx]; rfl]
  iintro ⟨HB, H1, H2, H3, H4, H5, ⟨Hz, Hs⟩, Hr⟩
  isplitl [Hs]; · iexact Hs
  iintro Hs
  iframe

/-! ## Loads of slots -/

/-- A load of a weight slot of this device. -/
theorem wp_load_own {α : Type} {Q : α → sProp 𝕄} (b : Fin 7) (j : Dev nD) (q : PosShare TreeShare) {M : Memref sig .tc .vmem S3x4x512x256 .bf16} {k : Fin 3}
    (hM : bufSlot b j = laySlot M k j) {off : Fin 4 → ℕ} (hoff : off = ![k.val, (j : Fin 4).val, 0, 0])
    {inb : ∀ a : Fin 4, off a + S1x1x512x256.size a ≤ S3x4x512x256.size a} {hl}
    {p : Vec F S1x1x512x256 .bf16 → Prog (TpuEff nD τ sig (Elt F) Λ₀ .tc) α} :
    slotAt V c b j q
      ⊢ iprop((slotAt V c b j q -∗ wp frame (wpE (defs₀ (F := F)) 𝒱₀ (c : Thread nD τ) none) Set.univ (p (up4 (V b j))) Q)
          -∗ wp frame (wpE (defs₀ (F := F)) 𝒱₀ (c : Thread nD τ) none) Set.univ
              (.op (.load M (Rect.unit (s := S3x4x512x256) off S1x1x512x256.size inb).toLoadRect hl) p) Q) := by
  unfold slotAt
  rw [hM]
  exact wp_load_lay M c q (V b j) k j hoff

/-- A load of a weight slot that came with transfer `x`. -/
theorem wp_load_got {α : Type} {Q : α → sProp 𝕄} (i : ℕ) (x : Fin 21) (b : Fin 7) (j : Dev nD) (hi : i < r) (hx : ord (tr i) = x)
    (hb : bufOf x = b) (hj : slotR x c = j) {M : Memref sig .tc .vmem S3x4x512x256 .bf16} {k : Fin 3}
    (hM : bufSlot b j = laySlot M k j) {off : Fin 4 → ℕ} (hoff : off = ![k.val, (j : Fin 4).val, 0, 0])
    {inb : ∀ a : Fin 4, off a + S1x1x512x256.size a ≤ S3x4x512x256.size a} {hl}
    {p : Vec F S1x1x512x256 .bf16 → Prog (TpuEff nD τ sig (Elt F) Λ₀ .tc) α} :
    St V K c s w r
      ⊢ iprop((St V K c s w r -∗ wp frame (wpE (defs₀ (F := F)) 𝒱₀ (c : Thread nD τ) none) Set.univ (p (up4 (V b j))) Q)
          -∗ wp frame (wpE (defs₀ (F := F)) 𝒱₀ (c : Thread nD τ) none) Set.univ
              (.op (.load M (Rect.unit (s := S3x4x512x256) off S1x1x512x256.size inb).toLoadRect hl) p) Q) := by
  subst hb hj
  iintro H Hk
  ihave H' := (St_got c i hi x hx) $$ H
  icases H' with ⟨Hs, Hback⟩
  iapply (wp_load_own c (bufOf x) (slotR x c) (qg x) hM hoff) $$ Hs
  iintro Hs
  iapply Hk
  iapply Hback
  iexact Hs

/-- A load of a result slot that came with transfer `x`. -/
theorem wp_load_res {α : Type} {Q : α → sProp 𝕄} (i : ℕ) (x : Fin 21) (j : Dev nD) (hi : i < r) (hx : ord (tr i) = x)
    (hb : bufOf x = 6) (hj : slotR x c = j) {off : Fin 3 → ℕ} (hoff : off = ![(j : Fin 4).val, 0, 0])
    {inb : ∀ a : Fin 3, off a + S1x512x256.size a ≤ S4x512x256.size a} {hl}
    {p : Vec F S1x512x256 .bf16 → Prog (TpuEff nD τ sig (Elt F) Λ₀ .tc) α} :
    St V K c s w r
      ⊢ iprop((St V K c s w r -∗ wp frame (wpE (defs₀ (F := F)) 𝒱₀ (c : Thread nD τ) none) Set.univ (p (up3 (V 6 j))) Q)
          -∗ wp frame (wpE (defs₀ (F := F)) 𝒱₀ (c : Thread nD τ) none) Set.univ
              (.op (.load gM (Rect.unit (s := S4x512x256) off S1x512x256.size inb).toLoadRect hl) p) Q) := by
  subst hj
  iintro H Hk
  ihave H' := (St_got c i hi x hx) $$ H
  icases H' with ⟨Hs, Hback⟩
  rw [hb]
  iapply (wp_load_gat gM c (qg x) (V 6 (slotR x c)) (slotR x c) hoff) $$ [Hs]
  · unfold slotAt; iexact Hs
  iintro Hs
  iapply Hk
  iapply Hback
  unfold slotAt; iexact Hs

end Cert.Mlp

end
-- ==== Proof.Stores.lean ====
/-
Loads and stores of whole pieces of a buffer: a block of an input, a block of the output, a slot of the result buffer.
-/
module

public import proofs.«01_k».proof.Proof.Steps

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A block of a buffer -/

/-- The elements of `X` under a rectangle. -/
def sub {s : Shape} {α : Type} (r : Rect s) (X : s.Idx → α) : r.shape.Idx → α := fun i => X (r.emb i)

section
variable (c : Dev nD) (q : PosShare TreeShare)

/-- A load through a memref gives the elements under its rectangle. -/
theorem wp_load_sub {α : Type} {Q : α → sProp 𝕄} {s : Shape} {e : EltTy} (M : Memref sig .tc .vmem s e) (X : s.Idx → Elt F e) (r : Rect s) {hl}
    {p : Vec F r.shape e → Prog (TpuEff nD τ sig (Elt F) Λ₀ .tc) α} :
    owns (c : Thread nD τ) M q X
      ⊢ iprop((owns (c : Thread nD τ) M q X -∗ wp frame (wpE (defs₀ (F := F)) 𝒱₀ (c : Thread nD τ) none) Set.univ (p (sub r X)) Q)
          -∗ wp frame (wpE (defs₀ (F := F)) 𝒱₀ (c : Thread nD τ) none) Set.univ (.op (.load M r.toLoadRect hl) p) Q) := by
  unfold owns
  iintro ⟨%f, %hf, H⟩ Hk
  iapply (wp_load 𝒱₀ (c : Thread nD τ) none Set.univ (m := M) (S := M.view.set) (f := f) (q := q)
    (by
      intro y hy
      obtain ⟨z, -, rfl⟩ := Finset.mem_map.mp hy
      exact Finset.mem_map_of_mem _ (Finset.mem_univ _))) $$ H
  iintro H
  have hX : M.view.readAt (Elt F) r.toLoadRect f = sub r X := by
    rw [View.readAt_rect, ← hf]; rfl
  rw [hX]
  iapply Hk
  iexists f
  isplitr; · ipureintro; exact hf
  iexact H

/-- A store through a memref replaces the elements under its rectangle and no other. -/
theorem wp_store_sub {α : Type} {Q : α → sProp 𝕄} {s : Shape} {e : EltTy} (M : Memref sig .tc .vmem s e) (X : s.Idx → Elt F e) (r : Rect s)
    (w : r.shape.Idx → Elt F e) {hx hm} {p : PUnit → Prog (TpuEff nD τ sig (Elt F) Λ₀ .tc) α} :
    owns (c : Thread nD τ) M fullShare X
      ⊢ iprop((∀ X' : s.Idx → Elt F e, ⌜(∀ i, X' (r.emb i) = w i) ∧ ∀ y, y ∉ r.set → X' y = X y⌝ -∗ owns (c : Thread nD τ) M fullShare X'
            -∗ wp frame (wpE (defs₀ (F := F)) 𝒱₀ (c : Thread nD τ) none) Set.univ (p ⟨⟩) Q)
          -∗ wp frame (wpE (defs₀ (F := F)) 𝒱₀ (c : Thread nD τ) none) Set.univ (.op (.store M r w Finset.univ hx hm) p) Q) := by
  unfold owns
  iintro ⟨%f, %hf, H⟩ Hk
  iapply (wp_store 𝒱₀ (c : Thread nD τ) none Set.univ (m := M) (r := r) (Mk := Finset.univ) (S := M.view.set) (f := f)
    (by
      show (M.view.slice r).set ⊆ _
      rw [View.set_slice]
      intro y hy
      obtain ⟨z, -, rfl⟩ := Finset.mem_map.mp hy
      exact Finset.mem_map_of_mem _ (Finset.mem_univ _))) $$ H
  iintro H
  iapply Hk $$ %(M.view.read (Elt F) ((M.view.slice r).write (Elt F) f w Finset.univ)) [] [H]
  · ipureintro
    refine ⟨fun i => View.read_slice_write_emb _ _ _ (Finset.mem_univ _), fun y hy => ?_⟩
    rw [View.read_slice_write_of_not_mem _ _ _ _ (by rw [Rect.map_emb_univ]; exact hy), hf]
  · iexists _; isplitr
    rotate_left
    · iexact H
    · ipureintro; rfl

/-- A store of a whole result slot. -/
theorem wp_store_gat {α : Type} {Q : α → sProp 𝕄} (j : Fin 4) (X w : S512x256.Idx → Elt F .bf16) {off : Fin 3 → ℕ} (hoff : off = ![j.val, 0, 0])
    {inb : ∀ a : Fin 3, off a + S1x512x256.size a ≤ S4x512x256.size a} {hx hm}
    {p : PUnit → Prog (TpuEff nD τ sig (Elt F) Λ₀ .tc) α} :
    owns (c : Thread nD τ) (gatSlot gM j) fullShare X
      ⊢ iprop((owns (c : Thread nD τ) (gatSlot gM j) fullShare w -∗ wp frame (wpE (defs₀ (F := F)) 𝒱₀ (c : Thread nD τ) none) Set.univ (p ⟨⟩) Q)
          -∗ wp frame (wpE (defs₀ (F := F)) 𝒱₀ (c : Thread nD τ) none) Set.univ
              (.op (.store gM (Rect.unit (s := S4x512x256) off S1x512x256.size inb) (up3 w) Finset.univ hx hm) p) Q) := by
  subst hoff
  unfold owns
  iintro ⟨%f, %hf, H⟩ Hk
  iapply (wp_store 𝒱₀ (c : Thread nD τ) none Set.univ (m := gM) (r := gatRect j) (Mk := Finset.univ)
    (S := (gatSlot gM j).view.set) (f := f) (by
      rw [gat_set]
      show (gM.view.slice (gatRect j)).set ⊆ _
      rw [View.set_slice])) $$ H
  iintro H
  iapply Hk
  iexists _
  isplitr
  rotate_left
  · iexact H
  ipureintro
  have h : (gatSlot gM j).view.read (Elt F) ((gM.view.slice (gatRect j)).write (Elt F) f (up3 w) Finset.univ)
      = shapeCast S512x256 (gM.view.readAt (Elt F) (gatRect j).toLoadRect ((gM.view.slice (gatRect j)).write (Elt F) f (up3 w) Finset.univ)) shapeCasts_S1x512x256_S512x256 :=
    Memref.read_squeeze_slice gM _ _ _ _ _
  refine h.trans ?_
  rw [View.readAt_rect, View.read_write_univ]
  unfold up3
  exact shapeCast_shapeCast _ _ _

end

/-! ## The output -/

/-- The output made of four blocks of rows. -/
def pile (R : Dev nD → S512x256.Idx → Elt F .f32) : S2048x256.Idx → Elt F .f32 := fun i =>
  R ⟨(i 0).val / 512, Nat.div_lt_of_lt_mul (i 0).isLt⟩
    (Fin.cons (α := fun a => Fin (S512x256.size a)) ⟨(i 0).val % 512, Nat.mod_lt _ (by decide)⟩ (fun a => i a.succ))

/-- The blocks in `D` have been written. -/
def Filled (R : Dev nD → S512x256.Idx → Elt F .f32) (D : Finset (Dev nD)) (X : S2048x256.Idx → Elt F .f32) : Prop :=
  ∀ i : S2048x256.Idx, (⟨(i 0).val / 512, Nat.div_lt_of_lt_mul (i 0).isLt⟩ : Dev nD) ∈ D → X i = pile R i

omit [FloatOps F] in
theorem filled_none (R : Dev nD → S512x256.Idx → Elt F .f32) (X : S2048x256.Idx → Elt F .f32) : Filled R ∅ X := fun i h => absurd h (Finset.notMem_empty _)
omit [FloatOps F] in
theorem filled_all {R : Dev nD → S512x256.Idx → Elt F .f32} {D : Finset (Dev nD)} (hD : ∀ d, d ∈ D) {X : S2048x256.Idx → Elt F .f32} (h : Filled R D X) :
    X = pile R := funext fun i => h i (hD _)

/-- A store of one block of the output. -/
theorem wp_store_block (c : Dev nD) {α : Type} {Q : α → sProp 𝕄} (M : Memref sig .tc .vmem S2048x256 .f32) (R : Dev nD → S512x256.Idx → Elt F .f32)
    (D : Finset (Dev nD)) (X : S2048x256.Idx → Elt F .f32) (hX : Filled R D X) (j : Dev nD) {off : Fin 2 → ℕ} (hoff : off = ![512 * (j : Fin 4).val, 0])
    {inb : ∀ a : Fin 2, off a + S512x256.size a ≤ S2048x256.size a} (w : S512x256.Idx → Elt F .f32) (hw : w = R j) {hx hm}
    {p : PUnit → Prog (TpuEff nD τ sig (Elt F) Λ₀ .tc) α} :
    owns (c : Thread nD τ) M fullShare X
      ⊢ iprop((∀ X' : S2048x256.Idx → Elt F .f32, ⌜Filled R (insert j D) X'⌝ -∗ owns (c : Thread nD τ) M fullShare X'
            -∗ wp frame (wpE (defs₀ (F := F)) 𝒱₀ (c : Thread nD τ) none) Set.univ (p ⟨⟩) Q)
          -∗ wp frame (wpE (defs₀ (F := F)) 𝒱₀ (c : Thread nD τ) none) Set.univ
              (.op (.store M (Rect.unit (s := S2048x256) off S512x256.size inb) w Finset.univ hx hm) p) Q) := by
  subst hoff hw
  iintro H Hk
  iapply (wp_store_sub c M X (Rect.unit (s := S2048x256) ![512 * (j : Fin 4).val, 0] S512x256.size inb) (R j)) $$ H
  iintro %X' %h H
  iapply Hk $$ %X' [] H
  ipureintro
  intro i hi
  rcases eq_or_ne (⟨(i 0).val / 512, Nat.div_lt_of_lt_mul (i 0).isLt⟩ : Dev nD) j with hj | hj
  · have hv : (i 0).val / 512 = j.val := congrArg Fin.val hj
    have he : i = (Rect.unit (s := S2048x256) ![512 * (j : Fin 4).val, 0] S512x256.size inb).emb
        (Fin.cons (α := fun a => Fin (S512x256.size a)) ⟨(i 0).val % 512, Nat.mod_lt _ (by decide)⟩ (fun a => i a.succ)) := by
      refine funext fun a => Fin.ext ?_
      fin_cases a
      · show (i 0).val = 512 * j.val + 1 * ((i 0).val % 512)
        have := Nat.div_add_mod (i 0).val 512
        omega
      · show (i 1).val = 0 + 1 * (i 1).val; omega
    rw [congrArg X' he, h.1]
    unfold pile; rw [hj]
  · have hD := (Finset.mem_insert.mp hi).resolve_left hj
    rw [h.2 i ?_, hX i hD]
    rw [Rect.mem_set_unit]
    intro hall
    have h0 := hall 0
    have h1 : 512 * j.val ≤ (i 0).val := h0.1
    have h2 : (i 0).val < 512 * j.val + 512 := h0.2
    exact hj (Fin.ext (show (i 0).val / 512 = j.val by omega))

/-! ## A chunk from its two halves -/

/-- A chunk whose first 256 rows are `w` and whose others are `w'`. -/
def half (w w' : S256x256.Idx → Elt F .bf16) : S512x256.Idx → Elt F .bf16 := fun i =>
  if h : (i 0).val < 256 then w (Fin.cons (α := fun a => Fin (S256x256.size a)) ⟨(i 0).val, h⟩ (fun a => i a.succ))
  else w' (Fin.cons (α := fun a => Fin (S256x256.size a)) ⟨(i 0).val - 256, by have h' : (i 0).val < 512 := (i 0).isLt; show _ < 256; omega⟩ (fun a => i a.succ))

omit [FloatOps F] in
theorem put_put (X : S512x256.Idx → Elt F .bf16) (w w' : S256x256.Idx → Elt F .bf16) : put 256 (put 0 X w) w' = half w w' := by
  funext i
  have h5 : (i 0).val < 512 := (i 0).isLt
  unfold put half
  by_cases h : (i 0).val < 256
  · rw [dif_neg (by omega), dif_pos (by omega), dif_pos h]; rfl
  · rw [dif_pos (by omega), dif_neg h]

end Cert.Mlp

end
-- ==== Proof.Values.lean ====
/-
What the slots hold and what a device computes, as functions of the arguments of all devices.
-/
module

public import proofs.«01_k».proof.Proof.Stores

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The arguments of every device: its block of the input, and for each layer its blocks of the two weights. -/
structure Ins (F : FTy → Type) where
  x : Dev nD → S512x256.Idx → Elt F .f32
  wi : Fin 3 → Dev nD → S256x512.Idx → Elt F .f32
  wo : Fin 3 → Dev nD → S512x256.Idx → Elt F .f32

/-! ## The weights -/

abbrev rI0 : Rect S256x512 := Rect.unit (s := S256x512) ![0, 0] S256x256.size inb_S256x512_S256x256_0_0
abbrev rI1 : Rect S256x512 := Rect.unit (s := S256x512) ![0, 256] S256x256.size inb_S256x512_S256x256_0_256
abbrev rO0 : Rect S512x256 := Rect.unit (s := S512x256) ![0, 0] S256x256.size inb_S512x256_S256x256_0_0
abbrev rO1 : Rect S512x256 := Rect.unit (s := S512x256) ![256, 0] S256x256.size inb_S512x256_S256x256_256_0
abbrev rX : Rect S512x256 := Rect.unit (s := S512x256) ![0, 0] S512x256.size inb_S512x256_S512x256_0_0

/-- Half a weight block as it is stored. -/
def tr16 (w : S256x256.Idx → Elt F .f32) : S256x256.Idx → Elt F .bf16 := truncf (s := S256x256) .bf16 w bitsLt_bf16_f32

variable (I : Ins F)

/-- The first half of a device's hidden units in layer `k`: the columns of one weight over the rows of the other. -/
def chA (k : Fin 3) (c : Dev nD) : S512x256.Idx → Elt F .bf16 := half (tr16 (sub rI0 (I.wi k c))) (tr16 (sub rO0 (I.wo k c)))
/-- The second half. -/
def chB (k : Fin 3) (c : Dev nD) : S512x256.Idx → Elt F .bf16 := half (tr16 (sub rI1 (I.wi k c))) (tr16 (sub rO1 (I.wo k c)))

/-! ## The layers -/

/-- The activations of 256 hidden units. -/
def hid (x : FVec F S512x256 .bf16) (w : FVec F S512x256 .bf16) : FVec F S512x256 .f32 :=
  maximumf (matmul dot_S512x256_S256x256_S512x256_1_0_0_1_n_n none x (extractStridedSlice S256x256 ![0, 0] w slices_S512x256_o0_0_S256x256) (constant S512x256 .f32 0x00000000#32))
    (broadcast S512x256 (Scalar.ofBits .f32 0x00000000#32))
/-- What those units add to the layer's result. -/
def dot (x : FVec F S512x256 .bf16) (w : FVec F S512x256 .bf16) : FVec F S512x256 .f32 :=
  matmul dot_S512x256_S256x256_S512x256_1_0_0_1_n_n none (truncf .bf16 (hid x w) bitsLt_bf16_f32)
    (extractStridedSlice S256x256 ![256, 0] w slices_S512x256_o256_0_S256x256) (constant S512x256 .f32 0x00000000#32)

/-- The result of layer `k` on device `c`, in the order in which the chunks arrive. -/
def layer (k : Fin 3) (c : Dev nD) (x : FVec F S512x256 .bf16) : FVec F S512x256 .f32 :=
  addf (addf (addf (addf (addf (addf (addf (dot x (chA I k (nb 0 c))) (dot x (chB I k (nb 0 c)))) (dot x (chA I k (nb 3 c)))) (dot x (chB I k (nb 1 c))))
    (dot x (chA I k (nb 1 c)))) (dot x (chB I k (nb 3 c)))) (dot x (chA I k (nb 2 c)))) (dot x (chB I k (nb 2 c)))

def xs0 (c : Dev nD) : FVec F S512x256 .bf16 := truncf (s := S512x256) .bf16 (I.x c) bitsLt_bf16_f32
def xs1 (c : Dev nD) : FVec F S512x256 .bf16 := truncf .bf16 (layer I 0 c (xs0 I c)) bitsLt_bf16_f32
def xs2 (c : Dev nD) : FVec F S512x256 .bf16 := truncf .bf16 (layer I 1 c (xs1 I c)) bitsLt_bf16_f32
/-- The rows a device computes. -/
def res (c : Dev nD) : FVec F S512x256 .f32 := layer I 2 c (xs2 I c)

/-- What the slots hold. -/
def Vof : Fin 7 → Dev nD → S512x256.Idx → Elt F .bf16
  | 0 => chA I 0 | 1 => chA I 1 | 2 => chA I 2 | 3 => chB I 0 | 4 => chB I 1 | 5 => chB I 2
  | 6 => fun c => truncf .bf16 (res I c) bitsLt_bf16_f32

/-- The blocks of the output on device `c`: its own as it was computed, the others as they were sent. -/
def outR (c : Dev nD) : Dev nD → S512x256.Idx → Elt F .f32 := fun j =>
  if j = c then res I c else extf .f32 (truncf .bf16 (res I j) bitsLt_bf16_f32) bitsLt_bf16_f32

/-! ## The body's expressions -/

variable (x : FVec F S512x256 .bf16) (p : FVec F S512x256 .f32) (w w' : FVec F S512x256 .bf16)

omit [FloatOps F] in
theorem down_up (w : Vec F S512x256 .bf16) (h) : (shapeCast S512x256 (up4 w) h : Vec F S512x256 .bf16) = w := shapeCast_shapeCast _ _ _
omit [FloatOps F] in
theorem down_upF (h) : (shapeCast S512x256 (up4 w) h : FVec F S512x256 .bf16) = w := shapeCast_shapeCast _ _ _
omit [FloatOps F] in
theorem down_upF3 (h) : (shapeCast S512x256 (up3 w) h : FVec F S512x256 .bf16) = w := shapeCast_shapeCast _ _ _
omit [FloatOps F] in
theorem down_up3 (w : Vec F S512x256 .bf16) (h) : (shapeCast S512x256 (up3 w) h : Vec F S512x256 .bf16) = w := shapeCast_shapeCast _ _ _

theorem pay15_val : k0_pay15 x (up4 w) = dot x w := by unfold k0_pay15; simp only [down_up, down_up3, down_upF, down_upF3]; rfl
theorem pay16_val : k0_pay16 (up4 w) = w := by unfold k0_pay16; simp only [down_up, down_up3, down_upF, down_upF3]
theorem pay17_val : k0_pay17 x p w (up4 w') = addf (addf p (dot x w)) (dot x w') := by unfold k0_pay17; simp only [down_up, down_up3, down_upF, down_upF3]; rfl
theorem pay18_val : k0_pay18 x p (up4 w) = addf p (dot x w) := by unfold k0_pay18; simp only [down_up, down_up3, down_upF, down_upF3]; rfl
theorem pay19_val : k0_pay19 x p (up4 w) = addf p (dot x w) := by unfold k0_pay19; simp only [down_up, down_up3, down_upF, down_upF3]; rfl
theorem pay27_val : k0_pay27 x p (up4 w) = addf p (dot x w) := by unfold k0_pay27; simp only [down_up, down_up3, down_upF, down_upF3]; rfl
theorem pay30_val : k0_pay30 x p (up4 w) = addf p (dot x w) := by unfold k0_pay30; simp only [down_up, down_up3, down_upF, down_upF3]; rfl
theorem pay39_val : k0_pay39 x p (up4 w) = addf p (dot x w) := by unfold k0_pay39; simp only [down_up, down_up3, down_upF, down_upF3]; rfl
theorem pay41_val : k0_pay41 x p (up4 w) = addf p (dot x w) := by unfold k0_pay41; simp only [down_up, down_up3, down_upF, down_upF3]; rfl
theorem pay20_val : k0_pay20 x p (up4 w) (up4 w') = addf (addf p (dot x w)) (dot x w') := by unfold k0_pay20; simp only [down_up, down_up3, down_upF, down_upF3]; rfl
theorem pay21_val : k0_pay21 x p (up4 w) = truncf .bf16 (addf p (dot x w)) bitsLt_bf16_f32 := by unfold k0_pay21; simp only [down_up, down_up3, down_upF, down_upF3]; rfl
theorem pay22_val : k0_pay22 x (up4 w) (up4 w') = addf (dot x w) (dot x w') := by unfold k0_pay22; simp only [down_up, down_up3, down_upF, down_upF3]; rfl
theorem pay24_val : k0_pay24 (up4 w) = (extractStridedSlice S256x256 ![256, 0] w slices_S512x256_o256_0_S256x256) := by unfold k0_pay24 k0_pay23; simp only [down_up, down_up3, down_upF, down_upF3]
theorem pay25_val : k0_pay25 x (up4 w) = (truncf .bf16 (hid x w) bitsLt_bf16_f32) := by unfold k0_pay25 k0_pay23; simp only [down_up, down_up3, down_upF, down_upF3]; rfl
theorem pay26_val : k0_pay26 p (extractStridedSlice S256x256 ![256, 0] w slices_S512x256_o256_0_S256x256) (truncf .bf16 (hid x w) bitsLt_bf16_f32) (constant S512x256 .f32 0x00000000#32) = addf p (dot x w) := by unfold k0_pay26; simp only [down_up, down_up3, down_upF, down_upF3]; rfl
theorem pay28_val : k0_pay28 (up4 w) = w := by unfold k0_pay28; simp only [down_up, down_up3, down_upF, down_upF3]
theorem pay29_val : k0_pay29 x p w (up4 w') = addf (addf p (dot x w)) (dot x w') := by unfold k0_pay29; simp only [down_up, down_up3, down_upF, down_upF3]; rfl
theorem pay32_val : k0_pay32 (up4 w) = (extractStridedSlice S256x256 ![256, 0] w slices_S512x256_o256_0_S256x256) := by unfold k0_pay32 k0_pay31; simp only [down_up, down_up3, down_upF, down_upF3]
theorem pay33_val : k0_pay33 x (up4 w) = (truncf .bf16 (hid x w) bitsLt_bf16_f32) := by unfold k0_pay33 k0_pay31; simp only [down_up, down_up3, down_upF, down_upF3]; rfl
theorem pay34_val : k0_pay34 p (extractStridedSlice S256x256 ![256, 0] w slices_S512x256_o256_0_S256x256) (truncf .bf16 (hid x w) bitsLt_bf16_f32) (constant S512x256 .f32 0x00000000#32) = truncf .bf16 (addf p (dot x w)) bitsLt_bf16_f32 := by unfold k0_pay34; simp only [down_up, down_up3, down_upF, down_upF3]; rfl
theorem pay36_val : k0_pay36 (up4 w) = (extractStridedSlice S256x256 ![256, 0] w slices_S512x256_o256_0_S256x256) := by unfold k0_pay36 k0_pay35; simp only [down_up, down_up3, down_upF, down_upF3]
theorem pay37_val : k0_pay37 p (extractStridedSlice S256x256 ![256, 0] w slices_S512x256_o256_0_S256x256) (truncf .bf16 (hid x w) bitsLt_bf16_f32) (constant S512x256 .f32 0x00000000#32) (up4 w') = truncf .bf16 (hid (truncf .bf16 (addf p (dot x w)) bitsLt_bf16_f32) w') bitsLt_bf16_f32 := by unfold k0_pay37 k0_pay35; rw [pay34_val]; simp only [down_up, down_upF]; rfl
theorem pay38_val (w'' : FVec F S512x256 .bf16) : k0_pay38 x (extractStridedSlice S256x256 ![256, 0] w slices_S512x256_o256_0_S256x256) (truncf .bf16 (hid x w) bitsLt_bf16_f32) (up4 w') (up4 w'') = addf (addf (dot x w) (dot x w')) (dot x w'') := by unfold k0_pay38; simp only [down_up, down_upF]; rfl
theorem pay40_val : k0_pay40 x p (up4 w) (up4 w') = addf (addf p (dot x w)) (dot x w') := by unfold k0_pay40; simp only [down_up, down_up3, down_upF, down_upF3]; rfl
theorem pay43_val : k0_pay43 (up4 w) = (extractStridedSlice S256x256 ![256, 0] w slices_S512x256_o256_0_S256x256) := by unfold k0_pay43 k0_pay42; simp only [down_up, down_up3, down_upF, down_upF3]
theorem pay44_val : k0_pay44 x (up4 w) = hid x w := by unfold k0_pay44 k0_pay42; simp only [down_up, down_up3, down_upF, down_upF3]; rfl
theorem pay45_val : k0_pay45 p (extractStridedSlice S256x256 ![256, 0] w slices_S512x256_o256_0_S256x256) (hid x w) = addf p (dot x w) := by unfold k0_pay45; simp only [down_up, down_up3, down_upF, down_upF3]; rfl
theorem pay46_val : k0_pay46 p (extractStridedSlice S256x256 ![256, 0] w slices_S512x256_o256_0_S256x256) (hid x w) = up3 (truncf .bf16 (addf p (dot x w)) bitsLt_bf16_f32) := by unfold k0_pay46; rw [pay45_val]; rfl
theorem pay47_val : k0_pay47 (up3 w) = extf .f32 w bitsLt_bf16_f32 := by unfold k0_pay47; simp only [down_up, down_up3, down_upF, down_upF3]
theorem pay48_val : k0_pay48 (up3 w) = extf .f32 w bitsLt_bf16_f32 := by unfold k0_pay48; simp only [down_up, down_up3, down_upF, down_upF3]
theorem pay49_val : k0_pay49 (up3 w) = extf .f32 w bitsLt_bf16_f32 := by unfold k0_pay49; simp only [down_up, down_up3, down_upF, down_upF3]
theorem pay14_val (v : Vec F S512x256 .f32) : k0_pay14 v = truncf .bf16 v bitsLt_bf16_f32 := by unfold k0_pay14; simp only [shapeCast_self]

section
variable (v : Vec F S256x256 .f32)
theorem pay1_val : k0_pay1 v = shapeCast S1x1x256x256 (tr16 v) shapeCasts_S256x256_S1x1x256x256 := by unfold k0_pay1; simp only [shapeCast_self]; rfl
theorem pay4_val : k0_pay4 v = shapeCast S1x1x256x256 (tr16 v) shapeCasts_S256x256_S1x1x256x256 := by unfold k0_pay4; simp only [shapeCast_self]; rfl
theorem pay5_val : k0_pay5 v = shapeCast S1x1x256x256 (tr16 v) shapeCasts_S256x256_S1x1x256x256 := by unfold k0_pay5; simp only [shapeCast_self]; rfl
theorem pay6_val : k0_pay6 v = shapeCast S1x1x256x256 (tr16 v) shapeCasts_S256x256_S1x1x256x256 := by unfold k0_pay6; simp only [shapeCast_self]; rfl
theorem pay7_val : k0_pay7 v = shapeCast S1x1x256x256 (tr16 v) shapeCasts_S256x256_S1x1x256x256 := by unfold k0_pay7; simp only [shapeCast_self]; rfl
theorem pay8_val : k0_pay8 v = shapeCast S1x1x256x256 (tr16 v) shapeCasts_S256x256_S1x1x256x256 := by unfold k0_pay8; simp only [shapeCast_self]; rfl
theorem pay9_val : k0_pay9 v = shapeCast S1x1x256x256 (tr16 v) shapeCasts_S256x256_S1x1x256x256 := by unfold k0_pay9; simp only [shapeCast_self]; rfl
theorem pay10_val : k0_pay10 v = shapeCast S1x1x256x256 (tr16 v) shapeCasts_S256x256_S1x1x256x256 := by unfold k0_pay10; simp only [shapeCast_self]; rfl
theorem pay11_val : k0_pay11 v = shapeCast S1x1x256x256 (tr16 v) shapeCasts_S256x256_S1x1x256x256 := by unfold k0_pay11; simp only [shapeCast_self]; rfl
theorem pay12_val : k0_pay12 v = shapeCast S1x1x256x256 (tr16 v) shapeCasts_S256x256_S1x1x256x256 := by unfold k0_pay12; simp only [shapeCast_self]; rfl
theorem pay13_val : k0_pay13 v = shapeCast S1x1x256x256 (tr16 v) shapeCasts_S256x256_S1x1x256x256 := by unfold k0_pay13; simp only [shapeCast_self]; rfl
theorem pay2_val : k0_pay2 v = tr16 v := by unfold k0_pay2; simp only [shapeCast_self]; rfl
theorem pay3_val (w : FVec F S256x256 .bf16) : k0_pay3 w = shapeCast S1x1x256x256 w shapeCasts_S256x256_S1x1x256x256 := rfl
end

/-- The input is read whole. -/
theorem sub_rX {α : Type} (X : S512x256.Idx → α) : sub rX X = X := by
  funext i
  refine congrArg X (funext fun a => Fin.ext ?_)
  fin_cases a
  · show 0 + 1 * (i 0).val = (i 0).val; omega
  · show 0 + 1 * (i 1).val = (i 1).val; omega

end Cert.Mlp

end
-- ==== Proof.Offs.lean ====
/-
Where the kernel's offsets and device numbers point, as slots and neighbours of the device that computes them.
-/
module

public import proofs.«01_k».proof.Proof.Steps

@[expose] public section

noncomputable section

namespace Cert.Mlp

open Cert.KernelIdeal Cert.KernelIdeal.Gen
open Idealize.ShloMosaic
open Idealize.ShloMosaic.TcCoe

/-! ## Offsets -/

theorem o1 (c : Dev nD) : k0_off1 c = ![((0 : Fin 3)).val, (nb 0 c : Fin 4).val, 0, 0] := by revert c; decide +kernel
theorem o2 (c : Dev nD) : k0_off2 c = ![((0 : Fin 3)).val, (nb 0 c : Fin 4).val, 256, 0] := by revert c; decide +kernel
theorem o4 (c : Dev nD) : k0_off4 c = ![((1 : Fin 3)).val, (nb 0 c : Fin 4).val, 0, 0] := by revert c; decide +kernel
theorem o5 (c : Dev nD) : k0_off5 c = ![((1 : Fin 3)).val, (nb 0 c : Fin 4).val, 256, 0] := by revert c; decide +kernel
theorem o6 (c : Dev nD) : k0_off6 c = ![((2 : Fin 3)).val, (nb 0 c : Fin 4).val, 0, 0] := by revert c; decide +kernel
theorem o7 (c : Dev nD) : k0_off7 c = ![((2 : Fin 3)).val, (nb 0 c : Fin 4).val, 256, 0] := by revert c; decide +kernel
theorem o3 (c : Dev nD) : k0_off3 c = ![((0 : Fin 3)).val, (nb 0 c : Fin 4).val, 0, 0] := by revert c; decide +kernel
theorem o8 (c : Dev nD) : k0_off8 c = ![((0 : Fin 3)).val, (nb 3 c : Fin 4).val, 0, 0] := by revert c; decide +kernel
theorem o9 (c : Dev nD) : k0_off9 c = ![((0 : Fin 3)).val, (nb 0 c : Fin 4).val, 0, 0] := by revert c; decide +kernel
theorem o10 (c : Dev nD) : k0_off10 c = ![((0 : Fin 3)).val, (nb 3 c : Fin 4).val, 0, 0] := by revert c; decide +kernel
theorem o11_1 (c : Dev nD) : k0_off11 c 1#32 = ![((0 : Fin 3)).val, (nb 1 c : Fin 4).val, 0, 0] := by revert c; decide +kernel
theorem o11_2 (c : Dev nD) : k0_off11 c 2#32 = ![((0 : Fin 3)).val, (nb 2 c : Fin 4).val, 0, 0] := by revert c; decide +kernel
theorem o12 (c : Dev nD) : k0_off12 c = ![((1 : Fin 3)).val, (nb 0 c : Fin 4).val, 0, 0] := by revert c; decide +kernel
theorem o13_1 (c : Dev nD) : k0_off13 c 1#32 = ![((0 : Fin 3)).val, (nb 1 c : Fin 4).val, 0, 0] := by revert c; decide +kernel
theorem o13_2 (c : Dev nD) : k0_off13 c 2#32 = ![((0 : Fin 3)).val, (nb 2 c : Fin 4).val, 0, 0] := by revert c; decide +kernel
theorem o14 (c : Dev nD) : k0_off14 c = ![((1 : Fin 3)).val, (nb 3 c : Fin 4).val, 0, 0] := by revert c; decide +kernel
theorem o15 (c : Dev nD) : k0_off15 c = ![((1 : Fin 3)).val, (nb 0 c : Fin 4).val, 0, 0] := by revert c; decide +kernel
theorem o16 (c : Dev nD) : k0_off16 c = ![((1 : Fin 3)).val, (nb 3 c : Fin 4).val, 0, 0] := by revert c; decide +kernel
theorem o17_1 (c : Dev nD) : k0_off17 c 1#32 = ![((1 : Fin 3)).val, (nb 1 c : Fin 4).val, 0, 0] := by revert c; decide +kernel
theorem o17_2 (c : Dev nD) : k0_off17 c 2#32 = ![((1 : Fin 3)).val, (nb 2 c : Fin 4).val, 0, 0] := by revert c; decide +kernel
theorem o18 (c : Dev nD) : k0_off18 c = ![((2 : Fin 3)).val, (nb 0 c : Fin 4).val, 0, 0] := by revert c; decide +kernel
theorem o19_1 (c : Dev nD) : k0_off19 c 1#32 = ![((1 : Fin 3)).val, (nb 1 c : Fin 4).val, 0, 0] := by revert c; decide +kernel
theorem o19_2 (c : Dev nD) : k0_off19 c 2#32 = ![((1 : Fin 3)).val, (nb 2 c : Fin 4).val, 0, 0] := by revert c; decide +kernel
theorem o20 (c : Dev nD) : k0_off20 c = ![((2 : Fin 3)).val, (nb 3 c : Fin 4).val, 0, 0] := by revert c; decide +kernel
theorem o21 (c : Dev nD) : k0_off21 c = ![((2 : Fin 3)).val, (nb 0 c : Fin 4).val, 0, 0] := by revert c; decide +kernel
theorem o22 (c : Dev nD) : k0_off22 c = ![((2 : Fin 3)).val, (nb 3 c : Fin 4).val, 0, 0] := by revert c; decide +kernel
theorem o23_1 (c : Dev nD) : k0_off23 c 1#32 = ![((2 : Fin 3)).val, (nb 1 c : Fin 4).val, 0, 0] := by revert c; decide +kernel
theorem o23_2 (c : Dev nD) : k0_off23 c 2#32 = ![((2 : Fin 3)).val, (nb 2 c : Fin 4).val, 0, 0] := by revert c; decide +kernel
theorem o24_1 (c : Dev nD) : k0_off24 c 1#32 = ![((2 : Fin 3)).val, (nb 1 c : Fin 4).val, 0, 0] := by revert c; decide +kernel
theorem o24_2 (c : Dev nD) : k0_off24 c 2#32 = ![((2 : Fin 3)).val, (nb 2 c : Fin 4).val, 0, 0] := by revert c; decide +kernel
theorem o25 (c : Dev nD) : k0_off25 c = ![512 * (nb 0 c : Fin 4).val, 0] := by revert c; decide +kernel
theorem o26 (c : Dev nD) : k0_off26 c = ![(nb 0 c : Fin 4).val, 0, 0] := by revert c; decide +kernel
theorem o27 (c : Dev nD) : k0_off27 c = ![(nb 0 c : Fin 4).val, 0, 0] := by revert c; decide +kernel
theorem o28 (c : Dev nD) : k0_off28 c = ![(nb 3 c : Fin 4).val, 0, 0] := by revert c; decide +kernel
theorem o29 (c : Dev nD) : k0_off29 c = ![(nb 3 c : Fin 4).val, 0, 0] := by revert c; decide +kernel
theorem o30 (c : Dev nD) : k0_off30 c = ![512 * (nb 3 c : Fin 4).val, 0] := by revert c; decide +kernel
theorem o31_1 (c : Dev nD) : k0_off31 c 1#32 = ![(nb 1 c : Fin 4).val, 0, 0] := by revert c; decide +kernel
theorem o32_1 (c : Dev nD) : k0_off32 c 1#32 = ![(nb 1 c : Fin 4).val, 0, 0] := by revert c; decide +kernel
theorem o33_1 (c : Dev nD) : k0_off33 c 1#32 = ![512 * (nb 1 c : Fin 4).val, 0] := by revert c; decide +kernel
theorem o31_2 (c : Dev nD) : k0_off31 c 2#32 = ![(nb 2 c : Fin 4).val, 0, 0] := by revert c; decide +kernel
theorem o32_2 (c : Dev nD) : k0_off32 c 2#32 = ![(nb 2 c : Fin 4).val, 0, 0] := by revert c; decide +kernel
theorem o33_2 (c : Dev nD) : k0_off33 c 2#32 = ![512 * (nb 2 c : Fin 4).val, 0] := by revert c; decide +kernel

/-! ## Devices -/

theorem d1 (c : Dev nD) : (⟨k0_dev1 c, k0_dev1_lt c⟩ : Dev nD) = nb 3 c := by revert c; decide +kernel
theorem d2 (c : Dev nD) : (⟨k0_dev2 c, k0_dev2_lt c⟩ : Dev nD) = nb 1 c := by revert c; decide +kernel
theorem d3 (c : Dev nD) : (⟨k0_dev3 c, k0_dev3_lt c⟩ : Dev nD) = nb 2 c := by revert c; decide +kernel
theorem d4 (c : Dev nD) : (⟨k0_dev4 c, k0_dev4_lt c⟩ : Dev nD) = tgt 0 c := by revert c; decide +kernel
theorem d5 (c : Dev nD) : (⟨k0_dev5 c, k0_dev5_lt c⟩ : Dev nD) = tgt 1 c := by revert c; decide +kernel
theorem d6 (c : Dev nD) : (⟨k0_dev6 c, k0_dev6_lt c⟩ : Dev nD) = tgt 2 c := by revert c; decide +kernel
theorem d7 (c : Dev nD) : (⟨k0_dev7 c, k0_dev7_lt c⟩ : Dev nD) = tgt 3 c := by revert c; decide +kernel
theorem d8 (c : Dev nD) : (⟨k0_dev8 c, k0_dev8_lt c⟩ : Dev nD) = tgt 4 c := by revert c; decide +kernel
theorem d9 (c : Dev nD) : (⟨k0_dev9 c, k0_dev9_lt c⟩ : Dev nD) = tgt 5 c := by revert c; decide +kernel
theorem d10 (c : Dev nD) : (⟨k0_dev10 c, k0_dev10_lt c⟩ : Dev nD) = tgt 6 c := by revert c; decide +kernel
theorem d11 (c : Dev nD) : (⟨k0_dev11 c, k0_dev11_lt c⟩ : Dev nD) = tgt 7 c := by revert c; decide +kernel
theorem d12 (c : Dev nD) : (⟨k0_dev12 c, k0_dev12_lt c⟩ : Dev nD) = tgt 8 c := by revert c; decide +kernel
theorem d13 (c : Dev nD) : (⟨k0_dev13 c, k0_dev13_lt c⟩ : Dev nD) = tgt 9 c := by revert c; decide +kernel
theorem d14 (c : Dev nD) : (⟨k0_dev14 c, k0_dev14_lt c⟩ : Dev nD) = tgt 10 c := by revert c; decide +kernel
theorem d15 (c : Dev nD) : (⟨k0_dev15 c, k0_dev15_lt c⟩ : Dev nD) = tgt 11 c := by revert c; decide +kernel
theorem d16 (c : Dev nD) : (⟨k0_dev16 c, k0_dev16_lt c⟩ : Dev nD) = tgt 12 c := by revert c; decide +kernel
theorem d17 (c : Dev nD) : (⟨k0_dev17 c, k0_dev17_lt c⟩ : Dev nD) = tgt 13 c := by revert c; decide +kernel
theorem d18 (c : Dev nD) : (⟨k0_dev18 c, k0_dev18_lt c⟩ : Dev nD) = tgt 14 c := by revert c; decide +kernel
theorem d19 (c : Dev nD) : (⟨k0_dev19 c, k0_dev19_lt c⟩ : Dev nD) = tgt 15 c := by revert c; decide +kernel
theorem d20 (c : Dev nD) : (⟨k0_dev20 c, k0_dev20_lt c⟩ : Dev nD) = tgt 16 c := by revert c; decide +kernel
theorem d21 (c : Dev nD) : (⟨k0_dev21 c, k0_dev21_lt c⟩ : Dev nD) = tgt 17 c := by revert c; decide +kernel
theorem d22 (c : Dev nD) : (⟨k0_dev22 c, k0_dev22_lt c⟩ : Dev nD) = tgt 18 c := by revert c; decide +kernel
theorem d23 (c : Dev nD) : (⟨k0_dev23 c, k0_dev23_lt c⟩ : Dev nD) = tgt 19 c := by revert c; decide +kernel
theorem d24 (c : Dev nD) : (⟨k0_dev24 c, k0_dev24_lt c⟩ : Dev nD) = tgt 20 c := by revert c; decide +kernel

end Cert.Mlp

end
-- ==== Proof.Staging.lean ====
/-
The start of the body: the agreement with the other devices, and the device's own weights brought into their slots.
-/
module

public import proofs.«01_k».proof.Proof.Values
public import proofs.«01_k».proof.Proof.Offs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Cix → ℕ) (c : Dev nD)

omit [FloatOps F] in
theorem nb_zero : nb 0 c = c := by revert c; decide

/-- 256 rows of a slot are replaced, after a load of the old ones. -/
theorem wp_fill {α : Type} {Q : α → sProp 𝕄} {M : Memref sig .tc .vmem S3x4x512x256 .bf16} {k : Fin 3} (b : Fin 7) (j : Dev nD)
    (hM : bufSlot b j = laySlot M k j) (o : ℕ) {off : Fin 4 → ℕ} (hoff : off = ![k.val, (j : Fin 4).val, o, 0])
    (Y : S512x256.Idx → Elt F .bf16) (w : S256x256.Idx → Elt F .bf16)
    {inb inb' : ∀ a : Fin 4, off a + S1x1x256x256.size a ≤ S3x4x512x256.size a} {hl' hx hm}
    {u : Vec F S1x1x256x256 .bf16} (hu : u = shapeCast S1x1x256x256 w shapeCasts_S256x256_S1x1x256x256)
    {p : PUnit → Prog (TpuEff nD τ sig (Elt F) Λ₀ .tc) α} :
    owns (c : Thread nD τ) (bufSlot b j) fullShare Y
      ⊢ iprop((owns (c : Thread nD τ) (bufSlot b j) fullShare (put o Y w) -∗ wp frame (wpE (defs₀ (F := F)) 𝒱₀ (c : Thread nD τ) none) Set.univ (p ⟨⟩) Q)
          -∗ wp frame (wpE (defs₀ (F := F)) 𝒱₀ (c : Thread nD τ) none) Set.univ (.op (.load M (Rect.unit (s := S3x4x512x256) off S1x1x256x256.size inb).toLoadRect hl') fun _ =>
              .op (.store M (Rect.unit (s := S3x4x512x256) off S1x1x256x256.size inb') u Finset.univ hx hm) p) Q) := by
  rw [hM, hu]
  iintro HY Hk
  iapply (wp_load_rows M c Y k j o hoff) $$ HY; iintro %v HY
  iapply (wp_store_rows M c Y k j o hoff w) $$ HY; iintro HY
  iapply Hk
  iexact HY

/-- Half a weight block is loaded, cut to the slots' format and stored in 256 rows of a slot. -/
theorem wp_stage {α : Type} {Q : α → sProp 𝕄} {s : Shape} (S : Memref sig .tc .vmem s .f32) (X : s.Idx → Elt F .f32) (R : Rect s)
    {M : Memref sig .tc .vmem S3x4x512x256 .bf16} {k : Fin 3} (b : Fin 7) (j : Dev nD)
    (hM : bufSlot b j = laySlot M k j) (o : ℕ) {off : Fin 4 → ℕ} (hoff : off = ![k.val, (j : Fin 4).val, o, 0])
    (Y : S512x256.Idx → Elt F .bf16) (w : S256x256.Idx → Elt F .bf16)
    {inb inb' : ∀ a : Fin 4, off a + S1x1x256x256.size a ≤ S3x4x512x256.size a} {hl hl' hx hm}
    {pay : Vec F R.shape .f32 → Vec F S1x1x256x256 .bf16} (hpay : pay (sub R X) = shapeCast S1x1x256x256 w shapeCasts_S256x256_S1x1x256x256)
    {p : PUnit → Prog (TpuEff nD τ sig (Elt F) Λ₀ .tc) α} :
    iprop(owns (c : Thread nD τ) S fullShare X ∗ owns (c : Thread nD τ) (bufSlot b j) fullShare Y)
      ⊢ iprop(((owns (c : Thread nD τ) S fullShare X ∗ owns (c : Thread nD τ) (bufSlot b j) fullShare (put o Y w)) -∗ wp frame (wpE (defs₀ (F := F)) 𝒱₀ (c : Thread nD τ) none) Set.univ (p ⟨⟩) Q)
          -∗ wp frame (wpE (defs₀ (F := F)) 𝒱₀ (c : Thread nD τ) none) Set.univ (.op (.load S R.toLoadRect hl) fun v =>
              .op (.load M (Rect.unit (s := S3x4x512x256) off S1x1x256x256.size inb).toLoadRect hl') fun _ =>
              .op (.store M (Rect.unit (s := S3x4x512x256) off S1x1x256x256.size inb') (pay v) Finset.univ hx hm) p) Q) := by
  iintro ⟨HX, HY⟩ Hk
  iapply (wp_load_sub c fullShare S X R) $$ HX; iintro HX
  iapply (wp_fill c b j hM o hoff Y w hpay) $$ HY; iintro HY
  iapply Hk
  iframe

omit [FloatOps F] in
/-- A slot in three shares. -/
theorem slot_split (V : Fin 7 → Dev nD → S512x256.Idx → Elt F .bf16) (b : Fin 7) (j : Dev nD) (X : S512x256.Idx → Elt F .bf16) (hX : X = V b j) :
    owns (c : Thread nD τ) (bufSlot b j) fullShare X
      ⊢ iprop(slotAt V c b j fullShare.left ∗ slotAt V c b j fullShare.right.left ∗ slotAt V c b j fullShare.right.right) := by
  subst hX
  unfold slotAt
  iintro H
  ihave H' := ((owns_halves (c : Thread nD τ) (bufSlot b j) fullShare (V b j)).1) $$ H
  icases H' with ⟨Hl, Hr⟩
  ihave H' := ((owns_halves (c : Thread nD τ) (bufSlot b j) fullShare.right (V b j)).1) $$ Hr
  icases H' with ⟨Hm, Hr⟩
  iframe
omit [FloatOps F] in
theorem slot_join (V : Fin 7 → Dev nD → S512x256.Idx → Elt F .bf16) (b : Fin 7) (j : Dev nD) :
    iprop(slotAt V c b j fullShare.left ∗ slotAt V c b j fullShare.right.left ∗ slotAt V c b j fullShare.right.right)
      ⊢ slotAt V c b j fullShare := by
  unfold slotAt
  iintro ⟨Hl, Hm, Hr⟩
  iapply ((owns_halves (c : Thread nD τ) (bufSlot b j) fullShare (V b j)).2)
  isplitl [Hl]; · iexact Hl
  iapply ((owns_halves (c : Thread nD τ) (bufSlot b j) fullShare.right (V b j)).2)
  iframe

theorem part2 {Q : _ → sProp 𝕄} (v2 : BitVec 32) (v7 : BitVec 32) (v26 : FVec F S256x256 .bf16) (hv : v26 = tr16 (sub rO0 (I.wo 0 c))) :
    iprop(St (Vof I) K c 0 0 0 ∗ (∃ X : S512x256.Idx → Elt F .bf16, owns (c : Thread nD τ) (bufSlot 0 (nb 0 c)) fullShare (put 0 X (tr16 (sub rI0 (I.wi 0 c))))) ∗ slotAny (F := F) c 3 (nb 0 c) ∗ owns (c : Thread nD τ) (Memref.whole cc0_stg1_0) fullShare (I.wi 0 c) ∗ owns (c : Thread nD τ) (Memref.whole cc0_stg2_0) fullShare (I.wo 0 c))
      ⊢ iprop(((St (Vof I) K c 1 0 0 ∗ slotAt (Vof I) c 0 (nb 0 c) fullShare.right.left ∗ slotAt (Vof I) c 0 (nb 0 c) fullShare.right.right ∗ slotAt (Vof I) c 3 (nb 0 c) fullShare.left ∗ slotAt (Vof I) c 3 (nb 0 c) fullShare.right.left ∗ slotAt (Vof I) c 3 (nb 0 c) fullShare.right.right ∗ owns (c : Thread nD τ) (Memref.whole cc0_stg1_0) fullShare (I.wi 0 c) ∗ owns (c : Thread nD τ) (Memref.whole cc0_stg2_0) fullShare (I.wo 0 c)) -∗ Q ⟨⟩)
          -∗ wp frame (wpE (defs₀ (F := F)) 𝒱₀ (c : Thread nD τ) none) Set.univ
            (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v7 v26) Q) := by
  rw [k0_part2_eq_skeleton]; unfold k0_part2_skel
  simp only [Prog.lift, Prog.bind_op, Prog.bind_ret, Prog.pure_eq_ret]
  unfold slotAny
  iintro ⟨HS, Hb0, Hb3, Hi1, Hi2⟩ Hk
  icases Hb0 with ⟨%X0, Hb0⟩
  icases Hb3 with ⟨%X3, Hb3⟩
  iapply (wp_fill c (k := 0) 0 (nb 0 c) rfl 256 (o2 c) _ (tr16 (sub rO0 (I.wo 0 c))) (by rw [pay3_val, hv])) $$ Hb0; iintro Hb0
  rw [put_put]
  ihave Hq0 := (slot_split c (Vof I) 0 (nb 0 c) (half (tr16 (sub rI0 (I.wi 0 c))) (tr16 (sub rO0 (I.wo 0 c)))) (by rw [nb_zero]; rfl)) $$ Hb0
  icases Hq0 with ⟨Hs0l, Hs0m, Hs0r⟩
  iapply (wp_stage c (Memref.whole cc0_stg1_0) (I.wi 0 c) rI1 (k := 0) 3 (nb 0 c) rfl 0 (o1 c) _ (tr16 (sub rI1 (I.wi 0 c))) (pay4_val _)) $$ [Hi1 Hb3]
  · iframe
  iintro ⟨Hi1, Hb3⟩
  iapply (wp_stage c (Memref.whole cc0_stg2_0) (I.wo 0 c) rO1 (k := 0) 3 (nb 0 c) rfl 256 (o2 c) _ (tr16 (sub rO1 (I.wo 0 c))) (pay5_val _)) $$ [Hi2 Hb3]
  · iframe
  iintro ⟨Hi2, Hb3⟩
  rw [put_put]
  ihave Hq3 := (slot_split c (Vof I) 3 (nb 0 c) (half (tr16 (sub rI1 (I.wi 0 c))) (tr16 (sub rO1 (I.wo 0 c)))) (by rw [nb_zero]; rfl)) $$ Hb3
  icases Hq3 with ⟨Hs3l, Hs3m, Hs3r⟩
  iapply (step_send c 0 0 (nb 0 c) fullShare.left (by decide) rfl (by decide) rfl rfl rfl (laySlot_of aM 0 (nb 0 c) _ (o3 c) _ _ _) (laySlot_of aM 0 (nb 0 c) _ (o3 c) _ _ _) (d4 c) rfl rfl) $$ HS Hs0l; iintro HS
  rw [wp_ret]; imodintro
  iapply Hk; iframe

theorem part4 {Q : _ → sProp 𝕄} (v2 : BitVec 32) :
    iprop(St (Vof I) K c 3 0 0 ∗ slotAt (Vof I) c 3 (nb 0 c) fullShare.right.left ∗ slotAny (F := F) c 1 (nb 0 c) ∗ slotAny (F := F) c 4 (nb 0 c) ∗ owns (c : Thread nD τ) (Memref.whole cc0_stg3_0) fullShare (I.wi 1 c) ∗ owns (c : Thread nD τ) (Memref.whole cc0_stg4_0) fullShare (I.wo 1 c))
      ⊢ iprop(((St (Vof I) K c 4 0 0 ∗ slotAt (Vof I) c 1 (nb 0 c) fullShare.left ∗ slotAt (Vof I) c 1 (nb 0 c) fullShare.right.left ∗ slotAt (Vof I) c 1 (nb 0 c) fullShare.right.right ∗ slotAt (Vof I) c 4 (nb 0 c) fullShare.left ∗ slotAt (Vof I) c 4 (nb 0 c) fullShare.right.left ∗ slotAt (Vof I) c 4 (nb 0 c) fullShare.right.right ∗ owns (c : Thread nD τ) (Memref.whole cc0_stg3_0) fullShare (I.wi 1 c) ∗ owns (c : Thread nD τ) (Memref.whole cc0_stg4_0) fullShare (I.wo 1 c)) -∗ Q ⟨⟩)
          -∗ wp frame (wpE (defs₀ (F := F)) 𝒱₀ (c : Thread nD τ) none) Set.univ
            (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2) Q) := by
  rw [k0_part4_eq_skeleton]; unfold k0_part4_skel
  simp only [Prog.lift, Prog.bind_op, Prog.bind_ret, Prog.pure_eq_ret]
  unfold slotAny
  iintro ⟨HS, Hs3m, Hb1, Hb4, Hi3, Hi4⟩ Hk
  icases Hb1 with ⟨%X1, Hb1⟩
  icases Hb4 with ⟨%X4, Hb4⟩
  iapply (step_send c 3 3 (nb 0 c) fullShare.right.left (by decide) rfl (by decide) rfl rfl rfl (laySlot_of bM 0 (nb 0 c) _ (o3 c) _ _ _) (laySlot_of bM 0 (nb 0 c) _ (o3 c) _ _ _) (d7 c) rfl rfl) $$ HS Hs3m; iintro HS
  iapply (wp_stage c (Memref.whole cc0_stg3_0) (I.wi 1 c) rI0 (k := 1) 1 (nb 0 c) rfl 0 (o4 c) _ (tr16 (sub rI0 (I.wi 1 c))) (pay6_val _)) $$ [Hi3 Hb1]
  · iframe
  iintro ⟨Hi3, Hb1⟩
  iapply (wp_stage c (Memref.whole cc0_stg4_0) (I.wo 1 c) rO0 (k := 1) 1 (nb 0 c) rfl 256 (o5 c) _ (tr16 (sub rO0 (I.wo 1 c))) (pay7_val _)) $$ [Hi4 Hb1]
  · iframe
  iintro ⟨Hi4, Hb1⟩
  rw [put_put]
  ihave Hq1 := (slot_split c (Vof I) 1 (nb 0 c) (half (tr16 (sub rI0 (I.wi 1 c))) (tr16 (sub rO0 (I.wo 1 c)))) (by rw [nb_zero]; rfl)) $$ Hb1
  icases Hq1 with ⟨Hs1l, Hs1m, Hs1r⟩
  iapply (wp_stage c (Memref.whole cc0_stg3_0) (I.wi 1 c) rI1 (k := 1) 4 (nb 0 c) rfl 0 (o4 c) _ (tr16 (sub rI1 (I.wi 1 c))) (pay8_val _)) $$ [Hi3 Hb4]
  · iframe
  iintro ⟨Hi3, Hb4⟩
  iapply (wp_stage c (Memref.whole cc0_stg4_0) (I.wo 1 c) rO1 (k := 1) 4 (nb 0 c) rfl 256 (o5 c) _ (tr16 (sub rO1 (I.wo 1 c))) (pay9_val _)) $$ [Hi4 Hb4]
  · iframe
  iintro ⟨Hi4, Hb4⟩
  rw [put_put]
  ihave Hq4 := (slot_split c (Vof I) 4 (nb 0 c) (half (tr16 (sub rI1 (I.wi 1 c))) (tr16 (sub rO1 (I.wo 1 c)))) (by rw [nb_zero]; rfl)) $$ Hb4
  icases Hq4 with ⟨Hs4l, Hs4m, Hs4r⟩
  rw [wp_ret]; imodintro
  iapply Hk; iframe

theorem part5 {Q : _ → sProp 𝕄} (v2 : BitVec 32) :
    iprop(slotAny (F := F) c 2 (nb 0 c) ∗ slotAny (F := F) c 5 (nb 0 c) ∗ owns (c : Thread nD τ) (Memref.whole cc0_stg5_0) fullShare (I.wi 2 c) ∗ owns (c : Thread nD τ) (Memref.whole cc0_stg6_0) fullShare (I.wo 2 c) ∗ owns (c : Thread nD τ) (Memref.whole cc0_stg0_0) fullShare (I.x c))
      ⊢ iprop(((slotAt (Vof I) c 2 (nb 0 c) fullShare.left ∗ slotAt (Vof I) c 2 (nb 0 c) fullShare.right.left ∗ slotAt (Vof I) c 2 (nb 0 c) fullShare.right.right ∗ slotAt (Vof I) c 5 (nb 0 c) fullShare.left ∗ slotAt (Vof I) c 5 (nb 0 c) fullShare.right.left ∗ slotAt (Vof I) c 5 (nb 0 c) fullShare.right.right ∗ owns (c : Thread nD τ) (Memref.whole cc0_stg5_0) fullShare (I.wi 2 c) ∗ owns (c : Thread nD τ) (Memref.whole cc0_stg6_0) fullShare (I.wo 2 c) ∗ owns (c : Thread nD τ) (Memref.whole cc0_stg0_0) fullShare (I.x c)) -∗ Q (xs0 I c))
          -∗ wp frame (wpE (defs₀ (F := F)) 𝒱₀ (c : Thread nD τ) none) Set.univ
            (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2) Q) := by
  rw [k0_part5_eq_skeleton]; unfold k0_part5_skel
  simp only [Prog.lift, Prog.bind_op, Prog.bind_ret, Prog.pure_eq_ret]
  unfold slotAny
  iintro ⟨Hb2, Hb5, Hi5, Hi6, Hi0⟩ Hk
  icases Hb2 with ⟨%X2, Hb2⟩
  icases Hb5 with ⟨%X5, Hb5⟩
  iapply (wp_stage c (Memref.whole cc0_stg5_0) (I.wi 2 c) rI0 (k := 2) 2 (nb 0 c) rfl 0 (o6 c) _ (tr16 (sub rI0 (I.wi 2 c))) (pay10_val _)) $$ [Hi5 Hb2]
  · iframe
  iintro ⟨Hi5, Hb2⟩
  iapply (wp_stage c (Memref.whole cc0_stg6_0) (I.wo 2 c) rO0 (k := 2) 2 (nb 0 c) rfl 256 (o7 c) _ (tr16 (sub rO0 (I.wo 2 c))) (pay11_val _)) $$ [Hi6 Hb2]
  · iframe
  iintro ⟨Hi6, Hb2⟩
  rw [put_put]
  ihave Hq2 := (slot_split c (Vof I) 2 (nb 0 c) (half (tr16 (sub rI0 (I.wi 2 c))) (tr16 (sub rO0 (I.wo 2 c)))) (by rw [nb_zero]; rfl)) $$ Hb2
  icases Hq2 with ⟨Hs2l, Hs2m, Hs2r⟩
  iapply (wp_stage c (Memref.whole cc0_stg5_0) (I.wi 2 c) rI1 (k := 2) 5 (nb 0 c) rfl 0 (o6 c) _ (tr16 (sub rI1 (I.wi 2 c))) (pay12_val _)) $$ [Hi5 Hb5]
  · iframe
  iintro ⟨Hi5, Hb5⟩
  iapply (wp_stage c (Memref.whole cc0_stg6_0) (I.wo 2 c) rO1 (k := 2) 5 (nb 0 c) rfl 256 (o7 c) _ (tr16 (sub rO1 (I.wo 2 c))) (pay13_val _)) $$ [Hi6 Hb5]
  · iframe
  iintro ⟨Hi6, Hb5⟩
  rw [put_put]
  ihave Hq5 := (slot_split c (Vof I) 5 (nb 0 c) (half (tr16 (sub rI1 (I.wi 2 c))) (tr16 (sub rO1 (I.wo 2 c)))) (by rw [nb_zero]; rfl)) $$ Hb5
  icases Hq5 with ⟨Hs5l, Hs5m, Hs5r⟩
  iapply (wp_load_sub c fullShare (Memref.whole cc0_stg0_0) (I.x c) rX) $$ Hi0; iintro Hi0
  rw [sub_rX, show k0_pay14 (I.x c) = xs0 I c from pay14_val _]
  rw [wp_ret]; imodintro
  iapply Hk; iframe

end Cert.Mlp

end
-- ==== Proof.Start.lean ====
/-
The agreement of the devices at the start of the body.
-/
module

public import proofs.«01_k».proof.Proof.Staging

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The transfers as numbers -/

theorem tr_of_lt {i : ℕ} (h : i < 21) : tr i = ⟨i, h⟩ := Fin.ext (Nat.mod_eq_of_lt h)

omit [FloatOps F] in
/-- The transfers one by one, by number. -/
theorem bigSep_tr (Φ : Fin 21 → sProp 𝕄) : bigSep Finset.univ Φ = bigSep (Finset.range 21) fun i => Φ (tr i) :=
  Ring.bigSep_fin_eq_range 21 Φ _ fun i h => by rw [tr_of_lt h]

/-- The order of the waits, as a rearrangement of the transfers. -/
def ordE : Fin 21 ≃ Fin 21 := Equiv.ofBijective ord (by decide)

variable (V : Fin 7 → Dev nD → S512x256.Idx → Elt F .bf16) (K : Dev nD × Cix → ℕ) (c : Dev nD)

/-! ## The signals -/

omit [FloatOps F] in
/-- What device `c` hands to the device it stands `r` after. -/
theorem barPay_mine (r : Fin 4) (d : Dev nD) (hd : (d : Fin 4) + r = (c : Fin 4)) :
    (bigSep (Finset.univ.filter fun x => dstRel x = r) fun x => slotAny (F := F) c (bufOf x) (slotR x c)) = barPay d r := by
  unfold barPay
  refine bigSep_congr fun x hx => ?_
  have hr : dstRel x = r := (Finset.mem_filter.mp hx).2
  have ht : tgt x d = c := by unfold tgt; rw [hr]; exact hd
  rw [← slotR_tgt x d, ht]

omit [FloatOps F] in
/-- The slots a device receives in, by the device that writes them. -/
theorem slots_split :
    (bigSep Finset.univ fun x : Fin 21 => slotAny (F := F) c (bufOf x) (slotR x c))
      = iprop(barPay (nb 3 c) 1 ∗ barPay (nb 2 c) 2 ∗ barPay (nb 1 c) 3) := by
  rw [bigSep_fiberwise Finset.univ dstRel, show (Finset.univ.image dstRel : Finset (Fin 4)) = {1, 2, 3} by decide,
    bigSep_insert (by decide), bigSep_insert (by decide), bigSep_singleton,
    barPay_mine c 1 (nb 3 c) (by revert c; decide), barPay_mine c 2 (nb 2 c) (by revert c; decide), barPay_mine c 3 (nb 1 c) (by revert c; decide)]
  rfl

/-- A signal to another device. -/
theorem step_signal {α : Type} {Q : α → sProp 𝕄} (d : Dev nD) (r : Fin 4) (hr : r ∈ ({1, 2, 3} : Finset (Fin 4))) (W : Waits sig Unit)
    (O O' : CellTallies nD τ sig Unit) (hO : O = O' + bt d) {k : ℕ} (hk : k = 1) {d' : Dev nD} (hd : d' = d) {p : PUnit → Prog (TpuEff nD τ sig (Elt F) Λ₀ .tc) α} :
    iprop(Base V K ∗ owes (c : Thread nD τ) O W ∗ dutyTok ER (barCell d) 0 r ∗ barPay (F := F) d r)
      ⊢ iprop((owes (c : Thread nD τ) O' W -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (d' : Thread nD τ) barS k) p) Q) := by
  subst hk hd
  iintro ⟨#HB, HO, Ht, Hp⟩ Hk
  iapply (Rounds.wp_signal 𝒱₀ ER (Rd V) (c : Thread nD τ) none (dst := (d' : Thread nD τ)) (κ := K (d', none))
      (d := r) (by rw [duties_bar]; exact hr) rfl () O' hO) $$ [HO Ht Hp]
  · isplitr; · iapply (base_inv V K (d', none)); iexact HB
    isplitl [HO]; · iexact HO
    isplitl [Ht]; · iexact Ht
    isplitl [Hp]; · iapply (Entails.of_eq (by rfl : barPay d' r = (Rd V).payload (barCell d') 0 r)); iexact Hp
    iapply (base_reached V K (d', none)); iexact HB
  iexact Hk

/-- What a device needs of the agreement, before it. -/
def Pre : sProp 𝕄 :=
  iprop(Base V K ∗ (∃ W : Waits sig Unit, owes (c : Thread nD τ) (O₀ c) W)
    ∗ (cred (tallyAt (barCell c) () 3) ∗ atPos ER (barCell c) 0 ∅ 0
      ∗ dutyTok ER (barCell (nb 3 c)) 0 1 ∗ dutyTok ER (barCell (nb 2 c)) 0 2 ∗ dutyTok ER (barCell (nb 1 c)) 0 3)
    ∗ (bigSep Finset.univ fun x : Fin 21 => slotAny (F := F) c (bufOf x) (slotR x c))
    ∗ (bigSep Finset.univ fun x : Fin 21 => iprop(dutyTok ER (sendCell c x) 0 0 ∗ dutyTok ER (recvCell (tgt x c) x) 0 0 ∗ atPos ER (sendCell c x) 0 ∅ 0))
    ∗ bigSep Finset.univ fun x : Fin 21 => Awt (F := F) c x)

omit [FloatOps F] in
theorem rdy_intro (x : Fin 21) :
    iprop((dutyTok ER (sendCell c x) 0 0 ∗ dutyTok ER (recvCell (tgt x c) x) 0 0 ∗ atPos ER (sendCell c x) 0 ∅ 0)
        ∗ slotAny (F := F) (tgt x c) (bufOf x) (slotS x c))
      ⊢ Rdy (F := F) c x := by
  unfold Rdy
  iintro ⟨⟨H1, H2, H3⟩, H4⟩
  iframe

omit [FloatOps F] in
theorem awt_order : (bigSep Finset.univ fun x : Fin 21 => Awt (F := F) c x) = bigSep (Finset.Ico 0 21) fun i => Awt (F := F) c (ord (tr i)) := by
  rw [bigSep_univ_equiv ordE, bigSep_tr, Finset.range_eq_Ico]; rfl

omit [FloatOps F] in
/-- The three signals' payloads ready every transfer of the device. -/
theorem ready :
    iprop((bigSep Finset.univ fun x : Fin 21 => iprop(dutyTok ER (sendCell c x) 0 0 ∗ dutyTok ER (recvCell (tgt x c) x) 0 0 ∗ atPos ER (sendCell c x) 0 ∅ 0))
        ∗ bigSep Finset.univ fun x : Fin 21 => slotAny (F := F) (tgt x c) (bufOf x) (slotS x c))
      ⊢ bigSep (Finset.Ico 0 21) fun i => Rdy (F := F) c (tr i) := by
  rw [← bigSep_sep', bigSep_tr, Finset.range_eq_Ico]
  exact bigSep_mono fun i _ => rdy_intro c (tr i)

/-- The agreement: three signals and the wait for the others' three. -/
theorem step_bar {α : Type} {Q : α → sProp 𝕄} {k1 k2 k3 : ℕ} (h1 : k1 = 1) (h2 : k2 = 1) (h3 : k3 = 1) {k : ℕ} (hk : k = 3)
    {e1 e2 e3 : Dev nD} (hd1 : e1 = nb 3 c) (hd2 : e2 = nb 1 c) (hd3 : e3 = nb 2 c)
    {p : PUnit → Prog (TpuEff nD τ sig (Elt F) Λ₀ .tc) α} :
    Pre V K c
      ⊢ iprop((St V K c 0 0 0 -∗ semVal (barCell c) 0 -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (e1 : Thread nD τ) barS k1) fun _ => .op (.semSignal (e2 : Thread nD τ) barS k2) fun _ =>
              .op (.semSignal (e3 : Thread nD τ) barS k3) fun _ => .op (.semWait barS k) p) Q) := by
  unfold Pre
  rw [slots_split]
  iintro ⟨#HB, ⟨%W, HO⟩, ⟨Hc, Hat, Ht1, Ht2, Ht3⟩, ⟨Hp1, Hp2, Hp3⟩, Htok, Hawt⟩ Hk
  iapply (step_signal V K c (nb 3 c) 1 (by decide) W (O₀ c) (Ob c) rfl h1 hd1) $$ [HO Ht1 Hp1]
  · isplitr; · iexact HB
    isplitl [HO]; · iexact HO
    isplitl [Ht1]; · iexact Ht1
    iexact Hp1
  iintro HO
  iapply (step_signal V K c (nb 1 c) 3 (by decide) W (Ob c) (Oa c) rfl h2 hd2) $$ [HO Ht3 Hp3]
  · isplitr; · iexact HB
    isplitl [HO]; · iexact HO
    isplitl [Ht3]; · iexact Ht3
    iexact Hp3
  iintro HO
  iapply (step_signal V K c (nb 2 c) 2 (by decide) W (Oa c) (Ow c 0) rfl h3 hd3) $$ [HO Ht2 Hp2]
  · isplitr; · iexact HB
    isplitl [HO]; · iexact HO
    isplitl [Ht2]; · iexact Ht2
    iexact Hp2
  iintro HO
  iapply (Rounds.wp_wait_rest_token 𝒱₀ ER (Rd V) (c : Thread nD τ) none (κ := K (c, none))
      (wpE_semWait_eq 𝒱₀ (c : Thread nD τ) none Set.univ) (Set.mem_univ _) () (O := Ow c 0) (W := W) (R := 0) (m := 0) (T := ∅)
      (by rw [Nat.zero_add, expect_bar, hk])) $$ [Hc HO Hat]
  · isplitr; · iapply (base_inv V K (c, none)); iexact HB
    isplitl [Hc]; · rw [hk]; iexact Hc
    isplitl [HO]; · iexact HO
    isplitr; · iapply (mayWait_bar c); iapply (base_lev V K); iexact HB
    iexact Hat
  iintro ⟨HO, Hat, -, Hpay⟩
  imod (Rounds.cell_close ER (Rd V) (Set.mem_univ (K (c, none))) (fun h => h) (R := 0 + 1) (duties_later V (barCell c))) $$ [Hat] with Hz
  · isplitr; · iapply (base_inv V K (c, none)); iexact HB
    iexact Hat
  ihave Hp := (Entails.of_eq (rest_bar V c)) $$ Hpay
  iapply Hk $$ [HO Htok Hp Hawt] Hz
  unfold St
  rw [Finset.Ico_self, Finset.range_zero, bigSep_empty, bigSep_empty, bigSep_empty]
  isplitr; · iexact HB
  isplitl [HO]; · iexists _; iexact HO
  isplitl [Htok Hp]
  · iapply (ready (F := F) c); isplitl [Htok]; · iexact Htok
    iexact Hp
  isplitr; · iempintro
  isplitr; · iempintro
  isplitl [Hawt]
  · iapply (Entails.of_eq (awt_order (F := F) c)); iexact Hawt
  iempintro

variable (I : Ins F)

theorem part1 {Q : _ → sProp 𝕄} :
    iprop(Pre (Vof I) K c ∗ slotAny (F := F) c 0 (nb 0 c) ∗ owns (c : Thread nD τ) (Memref.whole cc0_stg1_0) fullShare (I.wi 0 c)
        ∗ owns (c : Thread nD τ) (Memref.whole cc0_stg2_0) fullShare (I.wo 0 c))
      ⊢ iprop((∀ (v2 v5 v7 v9 : BitVec 32), (St (Vof I) K c 0 0 0 ∗ semVal (barCell c) 0
          ∗ (∃ X : S512x256.Idx → Elt F .bf16, owns (c : Thread nD τ) (bufSlot 0 (nb 0 c)) fullShare (put 0 X (tr16 (sub rI0 (I.wi 0 c)))))
          ∗ owns (c : Thread nD τ) (Memref.whole cc0_stg1_0) fullShare (I.wi 0 c) ∗ owns (c : Thread nD τ) (Memref.whole cc0_stg2_0) fullShare (I.wo 0 c))
            -∗ Q ⟨c, v2, v5, v7, v9, tr16 (sub rO0 (I.wo 0 c))⟩)
          -∗ wp frame (wpE (defs₀ (F := F)) 𝒱₀ (c : Thread nD τ) none) Set.univ
            (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6) Q) := by
  rw [k0_part1_eq_skeleton]; unfold k0_part1_skel
  simp only [semSignalWord, semWaitWord, Prog.lift, Prog.bind_op, Prog.bind_ret, Prog.pure_eq_ret, wp_deviceId]
  unfold slotAny
  iintro ⟨HP, ⟨%X, Hb0⟩, Hi1, Hi2⟩ Hk
  iapply (step_bar (Vof I) K c rfl rfl rfl rfl (d1 c) (d2 c) (d3 c)) $$ HP
  iintro HS Hz
  iapply (wp_stage c (Memref.whole cc0_stg1_0) (I.wi 0 c) rI0 (k := 0) 0 (nb 0 c) rfl 0 (o1 c) _ (tr16 (sub rI0 (I.wi 0 c))) (pay1_val _)) $$ [Hi1 Hb0]
  · iframe
  iintro ⟨Hi1, Hb0⟩
  iapply (wp_load_sub c fullShare (Memref.whole cc0_stg2_0) (I.wo 0 c) rO0) $$ Hi2; iintro Hi2
  rw [show k0_pay2 (sub rO0 (I.wo 0 c)) = tr16 (sub rO0 (I.wo 0 c)) from pay2_val _]
  rw [wp_ret]; imodintro
  iapply Hk
  isplitl [HS]; · iexact HS
  isplitl [Hz]; · iexact Hz
  isplitl [Hb0]; · iexists X; iexact Hb0
  iframe

end Cert.Mlp

end
-- ==== Proof.Layers.lean ====
/-
The three layers: the pieces of the body that send, pass on, wait and read weight slots, each from the state it starts in to
the state it leaves, with the value it computes.
-/
module

public import proofs.«01_k».proof.Proof.Offs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 7 → Dev nD → S512x256.Idx → Elt F .bf16) (K : Dev nD × Cix → ℕ) (c : Dev nD)

theorem part3 {Q : _ → sProp 𝕄} (v5 : BitVec 32) (v7 : BitVec 32) :
    iprop(St V K c 1 0 0 ∗ slotAt V c 3 (nb 0 c) fullShare.left ∗ slotAt V c 0 (nb 0 c) fullShare.right.left)
      ⊢ iprop((St V K c 3 0 0 -∗ Q ⟨⟩)
          -∗ wp frame (wpE (defs₀ (F := F)) 𝒱₀ (c : Thread nD τ) none) Set.univ
            (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v5 v7) Q) := by
  rw [k0_part3_eq_skeleton]; unfold k0_part3_skel
  simp only [Prog.lift, Prog.bind_op, Prog.bind_ret, Prog.pure_eq_ret]
  iintro ⟨HS, Hs1, Hs2⟩ Hk
  iapply (step_send c 1 3 (nb 0 c) fullShare.left (by decide) rfl (by decide) rfl rfl rfl (laySlot_of bM 0 (nb 0 c) _ (o3 c) _ _ _) (laySlot_of bM 0 (nb 0 c) _ (o3 c) _ _ _) (d5 c) rfl rfl) $$ HS Hs1; iintro HS
  iapply (step_send c 2 0 (nb 0 c) fullShare.right.left (by decide) rfl (by decide) rfl rfl rfl (laySlot_of aM 0 (nb 0 c) _ (o3 c) _ _ _) (laySlot_of aM 0 (nb 0 c) _ (o3 c) _ _ _) (d6 c) rfl rfl) $$ HS Hs2; iintro HS
  rw [wp_ret]; imodintro
  iapply Hk; iexact HS

theorem part6 {Q : _ → sProp 𝕄} (v2 : BitVec 32) (v7 : BitVec 32) (v143 : FVec F S512x256 .bf16) :
    iprop(St V K c 4 0 0 ∗ slotAt V c 0 (nb 0 c) fullShare.right.right ∗ slotAt V c 3 (nb 0 c) fullShare.right.right)
      ⊢ iprop(((St V K c 5 0 1 ∗ slotAt V c 0 (nb 0 c) fullShare.right.right ∗ slotAt V c 3 (nb 0 c) fullShare.right.right) -∗ Q ⟨k0_pay15 v143 (up4 (V 0 (nb 0 c))), k0_pay16 (up4 (V 3 (nb 0 c)))⟩)
          -∗ wp frame (wpE (defs₀ (F := F)) 𝒱₀ (c : Thread nD τ) none) Set.univ
            (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v7 v143) Q) := by
  rw [k0_part6_eq_skeleton]; unfold k0_part6_skel
  simp only [Prog.lift, Prog.bind_op, Prog.bind_ret, Prog.pure_eq_ret]
  iintro ⟨HS, Ho0, Ho3⟩ Hk
  iapply (step_recv_fwd c 0 0 (nb 3 c) (by decide) rfl (by decide) rfl rfl (slotR_eq 0 c) rfl rfl) $$ HS; iintro HS Hf0
  iapply (step_send c 4 0 (nb 3 c) fullShare.left (by decide) rfl (by decide) rfl rfl rfl (laySlot_of aM 0 (nb 3 c) _ (o8 c) _ _ _) (laySlot_of aM 0 (nb 3 c) _ (o8 c) _ _ _) (d8 c) rfl rfl) $$ HS Hf0; iintro HS
  iapply (wp_load_own c 0 (nb 0 c) fullShare.right.right (k := 0) rfl (o9 c)) $$ Ho0; iintro Ho0
  iapply (wp_load_own c 3 (nb 0 c) fullShare.right.right (k := 0) rfl (o9 c)) $$ Ho3; iintro Ho3
  rw [wp_ret]; imodintro
  iapply Hk; iframe

theorem part7 {Q : _ → sProp 𝕄} (v2 : BitVec 32) (v5 : BitVec 32) (v143 : FVec F S512x256 .bf16) (v171 : FVec F S512x256 .f32) (v174 : FVec F S512x256 .bf16) :
    St V K c 5 0 1
      ⊢ iprop(((St V K c 5 0 2 ∗ slotAt V c 3 (nb 1 c) fullShare.left) -∗ Q (k0_pay17 v143 v171 v174 (up4 (V 0 (nb 3 c)))))
          -∗ wp frame (wpE (defs₀ (F := F)) 𝒱₀ (c : Thread nD τ) none) Set.univ
            (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v143 v171 v174) Q) := by
  rw [k0_part7_eq_skeleton]; unfold k0_part7_skel
  simp only [Prog.lift, Prog.bind_op, Prog.bind_ret, Prog.pure_eq_ret]
  iintro HS Hk
  iapply (wp_load_got c 0 0 0 (nb 3 c) (by decide) rfl rfl (slotR_eq 0 c) (k := 0) rfl (o10 c)) $$ HS; iintro HS
  iapply (step_recv_fwd c 3 3 (nb 1 c) (by decide) rfl (by decide) rfl rfl (slotR_eq 3 c) rfl rfl) $$ HS; iintro HS Hf3
  rw [wp_ret]; imodintro
  iapply Hk; iframe

theorem part8 {Q : _ → sProp 𝕄} (v7 : BitVec 32) :
    iprop(St V K c 5 0 2 ∗ slotAt V c 3 (nb 1 c) fullShare.left ∗ slotAt V c 1 (nb 0 c) fullShare.left ∗ slotAt V c 4 (nb 0 c) fullShare.left)
      ⊢ iprop((St V K c 8 0 2 -∗ Q ⟨⟩)
          -∗ wp frame (wpE (defs₀ (F := F)) 𝒱₀ (c : Thread nD τ) none) Set.univ
            (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v7) Q) := by
  rw [k0_part8_eq_skeleton]; unfold k0_part8_skel
  simp only [Prog.lift, Prog.bind_op, Prog.bind_ret, Prog.pure_eq_ret]
  iintro ⟨HS, Hs5, Hs6, Hs7⟩ Hk
  iapply (step_send c 5 3 (nb 1 c) fullShare.left (by decide) rfl (by decide) rfl rfl rfl (laySlot_of bM 0 (nb 1 c) _ (o11_1 c) _ _ _) (laySlot_of bM 0 (nb 1 c) _ (o11_1 c) _ _ _) (d9 c) rfl rfl) $$ HS Hs5; iintro HS
  iapply (step_send c 6 1 (nb 0 c) fullShare.left (by decide) rfl (by decide) rfl rfl rfl (laySlot_of aM 1 (nb 0 c) _ (o12 c) _ _ _) (laySlot_of aM 1 (nb 0 c) _ (o12 c) _ _ _) (d10 c) rfl rfl) $$ HS Hs6; iintro HS
  iapply (step_send c 7 4 (nb 0 c) fullShare.left (by decide) rfl (by decide) rfl rfl rfl (laySlot_of bM 1 (nb 0 c) _ (o12 c) _ _ _) (laySlot_of bM 1 (nb 0 c) _ (o12 c) _ _ _) (d11 c) rfl rfl) $$ HS Hs7; iintro HS
  rw [wp_ret]; imodintro
  iapply Hk; iexact HS

theorem part9 {Q : _ → sProp 𝕄} (v5 : BitVec 32) (v7 : BitVec 32) (v143 : FVec F S512x256 .bf16) (v193 : FVec F S512x256 .f32) :
    iprop(St V K c 8 0 2 ∗ slotAt V c 1 (nb 0 c) fullShare.right.left ∗ slotAt V c 4 (nb 0 c) fullShare.right.left)
      ⊢ iprop((St V K c 10 0 2 -∗ Q (k0_pay18 v143 v193 (up4 (V 3 (nb 1 c)))))
          -∗ wp frame (wpE (defs₀ (F := F)) 𝒱₀ (c : Thread nD τ) none) Set.univ
            (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v5 v7 v143 v193) Q) := by
  rw [k0_part9_eq_skeleton]; unfold k0_part9_skel
  simp only [Prog.lift, Prog.bind_op, Prog.bind_ret, Prog.pure_eq_ret]
  iintro ⟨HS, Hs8, Hs9⟩ Hk
  iapply (step_send c 8 1 (nb 0 c) fullShare.right.left (by decide) rfl (by decide) rfl rfl rfl (laySlot_of aM 1 (nb 0 c) _ (o12 c) _ _ _) (laySlot_of aM 1 (nb 0 c) _ (o12 c) _ _ _) (d12 c) rfl rfl) $$ HS Hs8; iintro HS
  iapply (step_send c 9 4 (nb 0 c) fullShare.right.left (by decide) rfl (by decide) rfl rfl rfl (laySlot_of bM 1 (nb 0 c) _ (o12 c) _ _ _) (laySlot_of bM 1 (nb 0 c) _ (o12 c) _ _ _) (d13 c) rfl rfl) $$ HS Hs9; iintro HS
  iapply (wp_load_got c 1 3 3 (nb 1 c) (by decide) rfl rfl (slotR_eq 3 c) (k := 0) rfl (o13_1 c)) $$ HS; iintro HS
  rw [wp_ret]; imodintro
  iapply Hk; iexact HS

theorem part10 {Q : _ → sProp 𝕄} (v2 : BitVec 32) (v5 : BitVec 32) (v7 : BitVec 32) (v143 : FVec F S512x256 .bf16) (v262 : FVec F S512x256 .f32) :
    St V K c 10 0 2
      ⊢ iprop((St V K c 10 0 4 -∗ Q (k0_pay19 v143 v262 (up4 (V 0 (nb 1 c)))))
          -∗ wp frame (wpE (defs₀ (F := F)) 𝒱₀ (c : Thread nD τ) none) Set.univ
            (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v7 v143 v262) Q) := by
  rw [k0_part10_eq_skeleton]; unfold k0_part10_skel
  simp only [Prog.lift, Prog.bind_op, Prog.bind_ret, Prog.pure_eq_ret]
  iintro HS Hk
  iapply (step_recv c 2 (by decide) rfl (by decide) rfl rfl rfl) $$ HS; iintro HS
  iapply (wp_load_got c 2 2 0 (nb 1 c) (by decide) rfl rfl (slotR_eq 2 c) (k := 0) rfl (o13_1 c)) $$ HS; iintro HS
  iapply (step_recv c 1 (by decide) rfl (by decide) rfl rfl rfl) $$ HS; iintro HS
  rw [wp_ret]; imodintro
  iapply Hk; iexact HS

theorem part11 {Q : _ → sProp 𝕄} (v2 : BitVec 32) (v9 : BitVec 32) (v143 : FVec F S512x256 .bf16) (v281 : FVec F S512x256 .f32) :
    St V K c 10 0 4
      ⊢ iprop((St V K c 10 0 5 -∗ Q (k0_pay20 v143 v281 (up4 (V 3 (nb 3 c))) (up4 (V 0 (nb 2 c)))))
          -∗ wp frame (wpE (defs₀ (F := F)) 𝒱₀ (c : Thread nD τ) none) Set.univ
            (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v9 v143 v281) Q) := by
  rw [k0_part11_eq_skeleton]; unfold k0_part11_skel
  simp only [Prog.lift, Prog.bind_op, Prog.bind_ret, Prog.pure_eq_ret]
  iintro HS Hk
  iapply (wp_load_got c 3 1 3 (nb 3 c) (by decide) rfl rfl (slotR_eq 1 c) (k := 0) rfl (o10 c)) $$ HS; iintro HS
  iapply (step_recv c 4 (by decide) rfl (by decide) rfl rfl rfl) $$ HS; iintro HS
  iapply (wp_load_got c 4 4 0 (nb 2 c) (by decide) rfl rfl (slotR_eq 4 c) (k := 0) rfl (o13_2 c)) $$ HS; iintro HS
  rw [wp_ret]; imodintro
  iapply Hk; iexact HS

theorem part12 {Q : _ → sProp 𝕄} (v2 : BitVec 32) (v7 : BitVec 32) (v9 : BitVec 32) (v143 : FVec F S512x256 .bf16) (v319 : FVec F S512x256 .f32) :
    St V K c 10 0 5
      ⊢ iprop(((St V K c 10 0 7 ∗ slotAt V c 1 (nb 3 c) fullShare.left) -∗ Q (k0_pay21 v143 v319 (up4 (V 3 (nb 2 c)))))
          -∗ wp frame (wpE (defs₀ (F := F)) 𝒱₀ (c : Thread nD τ) none) Set.univ
            (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v7 v9 v143 v319) Q) := by
  rw [k0_part12_eq_skeleton]; unfold k0_part12_skel
  simp only [Prog.lift, Prog.bind_op, Prog.bind_ret, Prog.pure_eq_ret]
  iintro HS Hk
  iapply (step_recv c 5 (by decide) rfl (by decide) rfl rfl rfl) $$ HS; iintro HS
  iapply (wp_load_got c 5 5 3 (nb 2 c) (by decide) rfl rfl (slotR_eq 5 c) (k := 0) rfl (o13_2 c)) $$ HS; iintro HS
  iapply (step_recv_fwd c 6 1 (nb 3 c) (by decide) rfl (by decide) rfl rfl (slotR_eq 6 c) rfl rfl) $$ HS; iintro HS Hf6
  rw [wp_ret]; imodintro
  iapply Hk; iframe

theorem part13 {Q : _ → sProp 𝕄} (v2 : BitVec 32) (v5 : BitVec 32) (v339 : FVec F S512x256 .bf16) :
    iprop(St V K c 10 0 7 ∗ slotAt V c 1 (nb 3 c) fullShare.left ∗ slotAt V c 1 (nb 0 c) fullShare.right.right ∗ slotAt V c 4 (nb 0 c) fullShare.right.right)
      ⊢ iprop(((St V K c 11 0 7 ∗ slotAt V c 1 (nb 0 c) fullShare.right.right ∗ slotAt V c 4 (nb 0 c) fullShare.right.right) -∗ Q ⟨k0_pay22 v339 (up4 (V 1 (nb 0 c))) (up4 (V 4 (nb 0 c))), k0_pay24 (up4 (V 1 (nb 3 c))), k0_pay25 v339 (up4 (V 1 (nb 3 c))), constant S512x256 .f32 0x00000000#32⟩)
          -∗ wp frame (wpE (defs₀ (F := F)) 𝒱₀ (c : Thread nD τ) none) Set.univ
            (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v339) Q) := by
  rw [k0_part13_eq_skeleton]; unfold k0_part13_skel
  simp only [Prog.lift, Prog.bind_op, Prog.bind_ret, Prog.pure_eq_ret]
  iintro ⟨HS, Hs10, Ho1, Ho4⟩ Hk
  iapply (step_send c 10 1 (nb 3 c) fullShare.left (by decide) rfl (by decide) rfl rfl rfl (laySlot_of aM 1 (nb 3 c) _ (o14 c) _ _ _) (laySlot_of aM 1 (nb 3 c) _ (o14 c) _ _ _) (d14 c) rfl rfl) $$ HS Hs10; iintro HS
  iapply (wp_load_own c 1 (nb 0 c) fullShare.right.right (k := 1) rfl (o15 c)) $$ Ho1; iintro Ho1
  iapply (wp_load_own c 4 (nb 0 c) fullShare.right.right (k := 1) rfl (o15 c)) $$ Ho4; iintro Ho4
  iapply (wp_load_got c 6 6 1 (nb 3 c) (by decide) rfl rfl (slotR_eq 6 c) (k := 1) rfl (o16 c)) $$ HS; iintro HS
  rw [wp_ret]; imodintro
  iapply Hk; iframe

theorem part14 {Q : _ → sProp 𝕄} (v2 : BitVec 32) (v5 : BitVec 32) (v7 : BitVec 32) (v378 : FVec F S512x256 .f32) (v383 : FVec F S256x256 .bf16) (v387 : FVec F S512x256 .bf16) (cst_344 : FVec F S512x256 .f32) :
    St V K c 11 0 7
      ⊢ iprop((St V K c 12 0 8 -∗ Q (k0_pay26 v378 v383 v387 cst_344))
          -∗ wp frame (wpE (defs₀ (F := F)) 𝒱₀ (c : Thread nD τ) none) Set.univ
            (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v7 v378 v383 v387 cst_344) Q) := by
  rw [k0_part14_eq_skeleton]; unfold k0_part14_skel
  simp only [Prog.lift, Prog.bind_op, Prog.bind_ret, Prog.pure_eq_ret]
  iintro HS Hk
  iapply (step_recv_fwd c 9 4 (nb 1 c) (by decide) rfl (by decide) rfl rfl (slotR_eq 9 c) rfl rfl) $$ HS; iintro HS Hf9
  iapply (step_send c 11 4 (nb 1 c) fullShare.left (by decide) rfl (by decide) rfl rfl rfl (laySlot_of bM 1 (nb 1 c) _ (o17_1 c) _ _ _) (laySlot_of bM 1 (nb 1 c) _ (o17_1 c) _ _ _) (d15 c) rfl rfl) $$ HS Hf9; iintro HS
  rw [wp_ret]; imodintro
  iapply Hk; iexact HS

theorem part15 {Q : _ → sProp 𝕄} (v5 : BitVec 32) (v7 : BitVec 32) :
    iprop(St V K c 12 0 8 ∗ slotAt V c 2 (nb 0 c) fullShare.left ∗ slotAt V c 5 (nb 0 c) fullShare.left ∗ slotAt V c 2 (nb 0 c) fullShare.right.left)
      ⊢ iprop((St V K c 15 0 8 -∗ Q ⟨⟩)
          -∗ wp frame (wpE (defs₀ (F := F)) 𝒱₀ (c : Thread nD τ) none) Set.univ
            (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v5 v7) Q) := by
  rw [k0_part15_eq_skeleton]; unfold k0_part15_skel
  simp only [Prog.lift, Prog.bind_op, Prog.bind_ret, Prog.pure_eq_ret]
  iintro ⟨HS, Hs12, Hs13, Hs14⟩ Hk
  iapply (step_send c 12 2 (nb 0 c) fullShare.left (by decide) rfl (by decide) rfl rfl rfl (laySlot_of aM 2 (nb 0 c) _ (o18 c) _ _ _) (laySlot_of aM 2 (nb 0 c) _ (o18 c) _ _ _) (d16 c) rfl rfl) $$ HS Hs12; iintro HS
  iapply (step_send c 13 5 (nb 0 c) fullShare.left (by decide) rfl (by decide) rfl rfl rfl (laySlot_of bM 2 (nb 0 c) _ (o18 c) _ _ _) (laySlot_of bM 2 (nb 0 c) _ (o18 c) _ _ _) (d17 c) rfl rfl) $$ HS Hs13; iintro HS
  iapply (step_send c 14 2 (nb 0 c) fullShare.right.left (by decide) rfl (by decide) rfl rfl rfl (laySlot_of aM 2 (nb 0 c) _ (o18 c) _ _ _) (laySlot_of aM 2 (nb 0 c) _ (o18 c) _ _ _) (d18 c) rfl rfl) $$ HS Hs14; iintro HS
  rw [wp_ret]; imodintro
  iapply Hk; iexact HS

theorem part16 {Q : _ → sProp 𝕄} (v2 : BitVec 32) (v5 : BitVec 32) (v7 : BitVec 32) (v339 : FVec F S512x256 .bf16) (v389 : FVec F S512x256 .f32) :
    iprop(St V K c 15 0 8 ∗ slotAt V c 5 (nb 0 c) fullShare.right.left)
      ⊢ iprop((St V K c 16 0 9 -∗ Q ⟨k0_pay27 v339 v389 (up4 (V 4 (nb 1 c))), k0_pay28 (up4 (V 1 (nb 1 c)))⟩)
          -∗ wp frame (wpE (defs₀ (F := F)) 𝒱₀ (c : Thread nD τ) none) Set.univ
            (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v7 v339 v389) Q) := by
  rw [k0_part16_eq_skeleton]; unfold k0_part16_skel
  simp only [Prog.lift, Prog.bind_op, Prog.bind_ret, Prog.pure_eq_ret]
  iintro ⟨HS, Hs15⟩ Hk
  iapply (step_send c 15 5 (nb 0 c) fullShare.right.left (by decide) rfl (by decide) rfl rfl rfl (laySlot_of bM 2 (nb 0 c) _ (o18 c) _ _ _) (laySlot_of bM 2 (nb 0 c) _ (o18 c) _ _ _) (d19 c) rfl rfl) $$ HS Hs15; iintro HS
  iapply (wp_load_got c 7 9 4 (nb 1 c) (by decide) rfl rfl (slotR_eq 9 c) (k := 1) rfl (o19_1 c)) $$ HS; iintro HS
  iapply (step_recv c 8 (by decide) rfl (by decide) rfl rfl rfl) $$ HS; iintro HS
  iapply (wp_load_got c 8 8 1 (nb 1 c) (by decide) rfl rfl (slotR_eq 8 c) (k := 1) rfl (o19_1 c)) $$ HS; iintro HS
  rw [wp_ret]; imodintro
  iapply Hk; iexact HS

theorem part17 {Q : _ → sProp 𝕄} (v2 : BitVec 32) (v5 : BitVec 32) (v339 : FVec F S512x256 .bf16) (v458 : FVec F S512x256 .f32) (v469 : FVec F S512x256 .bf16) :
    St V K c 16 0 9
      ⊢ iprop((St V K c 16 0 10 -∗ Q (k0_pay29 v339 v458 v469 (up4 (V 4 (nb 3 c)))))
          -∗ wp frame (wpE (defs₀ (F := F)) 𝒱₀ (c : Thread nD τ) none) Set.univ
            (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v339 v458 v469) Q) := by
  rw [k0_part17_eq_skeleton]; unfold k0_part17_skel
  simp only [Prog.lift, Prog.bind_op, Prog.bind_ret, Prog.pure_eq_ret]
  iintro HS Hk
  iapply (step_recv c 7 (by decide) rfl (by decide) rfl rfl rfl) $$ HS; iintro HS
  iapply (wp_load_got c 9 7 4 (nb 3 c) (by decide) rfl rfl (slotR_eq 7 c) (k := 1) rfl (o16 c)) $$ HS; iintro HS
  rw [wp_ret]; imodintro
  iapply Hk; iexact HS

theorem part18 {Q : _ → sProp 𝕄} (v2 : BitVec 32) (v9 : BitVec 32) (v339 : FVec F S512x256 .bf16) (v496 : FVec F S512x256 .f32) :
    St V K c 16 0 10
      ⊢ iprop((St V K c 16 0 12 -∗ Q ⟨k0_pay30 v339 v496 (up4 (V 1 (nb 2 c))), k0_pay32 (up4 (V 4 (nb 2 c))), k0_pay33 v339 (up4 (V 4 (nb 2 c))), constant S512x256 .f32 0x00000000#32⟩)
          -∗ wp frame (wpE (defs₀ (F := F)) 𝒱₀ (c : Thread nD τ) none) Set.univ
            (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v9 v339 v496) Q) := by
  rw [k0_part18_eq_skeleton]; unfold k0_part18_skel
  simp only [Prog.lift, Prog.bind_op, Prog.bind_ret, Prog.pure_eq_ret]
  iintro HS Hk
  iapply (step_recv c 10 (by decide) rfl (by decide) rfl rfl rfl) $$ HS; iintro HS
  iapply (wp_load_got c 10 10 1 (nb 2 c) (by decide) rfl rfl (slotR_eq 10 c) (k := 1) rfl (o19_2 c)) $$ HS; iintro HS
  iapply (step_recv c 11 (by decide) rfl (by decide) rfl rfl rfl) $$ HS; iintro HS
  iapply (wp_load_got c 11 11 4 (nb 2 c) (by decide) rfl rfl (slotR_eq 11 c) (k := 1) rfl (o19_2 c)) $$ HS; iintro HS
  rw [wp_ret]; imodintro
  iapply Hk; iexact HS

theorem part19 {Q : _ → sProp 𝕄} (v2 : BitVec 32) (v7 : BitVec 32) (v515 : FVec F S512x256 .f32) (v528 : FVec F S256x256 .bf16) (v532 : FVec F S512x256 .bf16) (cst_489 : FVec F S512x256 .f32) :
    iprop(St V K c 16 0 12 ∗ slotAt V c 2 (nb 0 c) fullShare.right.right)
      ⊢ iprop(((St V K c 17 0 13 ∗ slotAt V c 2 (nb 0 c) fullShare.right.right) -∗ Q ⟨k0_pay34 v515 v528 v532 cst_489, k0_pay36 (up4 (V 2 (nb 0 c))), k0_pay37 v515 v528 v532 cst_489 (up4 (V 2 (nb 0 c)))⟩)
          -∗ wp frame (wpE (defs₀ (F := F)) 𝒱₀ (c : Thread nD τ) none) Set.univ
            (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v7 v515 v528 v532 cst_489) Q) := by
  rw [k0_part19_eq_skeleton]; unfold k0_part19_skel
  simp only [Prog.lift, Prog.bind_op, Prog.bind_ret, Prog.pure_eq_ret]
  iintro ⟨HS, Ho2⟩ Hk
  iapply (step_recv_fwd c 12 2 (nb 3 c) (by decide) rfl (by decide) rfl rfl (slotR_eq 12 c) rfl rfl) $$ HS; iintro HS Hf12
  iapply (step_send c 16 2 (nb 3 c) fullShare.left (by decide) rfl (by decide) rfl rfl rfl (laySlot_of aM 2 (nb 3 c) _ (o20 c) _ _ _) (laySlot_of aM 2 (nb 3 c) _ (o20 c) _ _ _) (d20 c) rfl rfl) $$ HS Hf12; iintro HS
  iapply (wp_load_own c 2 (nb 0 c) fullShare.right.right (k := 2) rfl (o21 c)) $$ Ho2; iintro Ho2
  rw [wp_ret]; imodintro
  iapply Hk; iframe

theorem part20 {Q : _ → sProp 𝕄} (v2 : BitVec 32) (v5 : BitVec 32) (v535 : FVec F S512x256 .bf16) (v558 : FVec F S256x256 .bf16) (v562 : FVec F S512x256 .bf16) :
    iprop(St V K c 17 0 13 ∗ slotAt V c 5 (nb 0 c) fullShare.right.right)
      ⊢ iprop(((St V K c 17 0 14 ∗ slotAt V c 5 (nb 0 c) fullShare.right.right ∗ slotAt V c 5 (nb 1 c) fullShare.left) -∗ Q (k0_pay38 v535 v558 v562 (up4 (V 5 (nb 0 c))) (up4 (V 2 (nb 3 c)))))
          -∗ wp frame (wpE (defs₀ (F := F)) 𝒱₀ (c : Thread nD τ) none) Set.univ
            (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v535 v558 v562) Q) := by
  rw [k0_part20_eq_skeleton]; unfold k0_part20_skel
  simp only [Prog.lift, Prog.bind_op, Prog.bind_ret, Prog.pure_eq_ret]
  iintro ⟨HS, Ho5⟩ Hk
  iapply (wp_load_own c 5 (nb 0 c) fullShare.right.right (k := 2) rfl (o21 c)) $$ Ho5; iintro Ho5
  iapply (wp_load_got c 12 12 2 (nb 3 c) (by decide) rfl rfl (slotR_eq 12 c) (k := 2) rfl (o22 c)) $$ HS; iintro HS
  iapply (step_recv_fwd c 15 5 (nb 1 c) (by decide) rfl (by decide) rfl rfl (slotR_eq 15 c) rfl rfl) $$ HS; iintro HS Hf15
  rw [wp_ret]; imodintro
  iapply Hk; iframe

theorem part21 {Q : _ → sProp 𝕄} (v2 : BitVec 32) (v5 : BitVec 32) (v7 : BitVec 32) (v535 : FVec F S512x256 .bf16) (v585 : FVec F S512x256 .f32) :
    iprop(St V K c 17 0 14 ∗ slotAt V c 5 (nb 1 c) fullShare.left)
      ⊢ iprop((St V K c 18 0 15 -∗ Q (k0_pay39 v535 v585 (up4 (V 5 (nb 1 c)))))
          -∗ wp frame (wpE (defs₀ (F := F)) 𝒱₀ (c : Thread nD τ) none) Set.univ
            (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v7 v535 v585) Q) := by
  rw [k0_part21_eq_skeleton]; unfold k0_part21_skel
  simp only [Prog.lift, Prog.bind_op, Prog.bind_ret, Prog.pure_eq_ret]
  iintro ⟨HS, Hs17⟩ Hk
  iapply (step_send c 17 5 (nb 1 c) fullShare.left (by decide) rfl (by decide) rfl rfl rfl (laySlot_of bM 2 (nb 1 c) _ (o23_1 c) _ _ _) (laySlot_of bM 2 (nb 1 c) _ (o23_1 c) _ _ _) (d21 c) rfl rfl) $$ HS Hs17; iintro HS
  iapply (wp_load_got c 13 15 5 (nb 1 c) (by decide) rfl rfl (slotR_eq 15 c) (k := 2) rfl (o24_1 c)) $$ HS; iintro HS
  iapply (step_recv c 14 (by decide) rfl (by decide) rfl rfl rfl) $$ HS; iintro HS
  rw [wp_ret]; imodintro
  iapply Hk; iexact HS

theorem part22 {Q : _ → sProp 𝕄} (v2 : BitVec 32) (v5 : BitVec 32) (v535 : FVec F S512x256 .bf16) (v614 : FVec F S512x256 .f32) :
    St V K c 18 0 15
      ⊢ iprop((St V K c 18 0 16 -∗ Q (k0_pay40 v535 v614 (up4 (V 2 (nb 1 c))) (up4 (V 5 (nb 3 c)))))
          -∗ wp frame (wpE (defs₀ (F := F)) 𝒱₀ (c : Thread nD τ) none) Set.univ
            (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v535 v614) Q) := by
  rw [k0_part22_eq_skeleton]; unfold k0_part22_skel
  simp only [Prog.lift, Prog.bind_op, Prog.bind_ret, Prog.pure_eq_ret]
  iintro HS Hk
  iapply (wp_load_got c 14 14 2 (nb 1 c) (by decide) rfl rfl (slotR_eq 14 c) (k := 2) rfl (o24_1 c)) $$ HS; iintro HS
  iapply (step_recv c 13 (by decide) rfl (by decide) rfl rfl rfl) $$ HS; iintro HS
  iapply (wp_load_got c 15 13 5 (nb 3 c) (by decide) rfl rfl (slotR_eq 13 c) (k := 2) rfl (o22 c)) $$ HS; iintro HS
  rw [wp_ret]; imodintro
  iapply Hk; iexact HS

theorem part23 {Q : _ → sProp 𝕄} (v2 : BitVec 32) (v9 : BitVec 32) (v535 : FVec F S512x256 .bf16) (v652 : FVec F S512x256 .f32) :
    St V K c 18 0 16
      ⊢ iprop((St V K c 18 0 18 -∗ Q ⟨k0_pay41 v535 v652 (up4 (V 2 (nb 2 c))), k0_pay43 (up4 (V 5 (nb 2 c))), k0_pay44 v535 (up4 (V 5 (nb 2 c)))⟩)
          -∗ wp frame (wpE (defs₀ (F := F)) 𝒱₀ (c : Thread nD τ) none) Set.univ
            (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v9 v535 v652) Q) := by
  rw [k0_part23_eq_skeleton]; unfold k0_part23_skel
  simp only [Prog.lift, Prog.bind_op, Prog.bind_ret, Prog.pure_eq_ret]
  iintro HS Hk
  iapply (step_recv c 16 (by decide) rfl (by decide) rfl rfl rfl) $$ HS; iintro HS
  iapply (wp_load_got c 16 16 2 (nb 2 c) (by decide) rfl rfl (slotR_eq 16 c) (k := 2) rfl (o24_2 c)) $$ HS; iintro HS
  iapply (step_recv c 17 (by decide) rfl (by decide) rfl rfl rfl) $$ HS; iintro HS
  iapply (wp_load_got c 17 17 5 (nb 2 c) (by decide) rfl rfl (slotR_eq 17 c) (k := 2) rfl (o24_2 c)) $$ HS; iintro HS
  rw [wp_ret]; imodintro
  iapply Hk; iexact HS

end Cert.Mlp

end
-- ==== Proof.Drain.lean ====
/-
The end of the body: the waits for the transfers out.
-/
module

public import proofs.«01_k».proof.Proof.Offs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 7 → Dev nD → S512x256.Idx → Elt F .bf16) (K : Dev nD × Cix → ℕ) (c : Dev nD)

theorem part27 {Q : _ → sProp 𝕄} :
    St V K c 21 1 21
      ⊢ iprop((St V K c 21 4 21 -∗ Q ⟨⟩)
          -∗ wp frame (wpE (defs₀ (F := F)) 𝒱₀ (c : Thread nD τ) none) Set.univ
            (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c) Q) := by
  rw [k0_part27_eq_skeleton]; unfold k0_part27_skel
  simp only [Prog.lift, Prog.bind_op, Prog.bind_ret, Prog.pure_eq_ret]
  iintro HS Hk
  iapply (step_sent c 1 (by decide) rfl rfl rfl) $$ HS; iintro HS
  iapply (step_sent c 2 (by decide) rfl rfl rfl) $$ HS; iintro HS
  iapply (step_sent c 3 (by decide) rfl rfl rfl) $$ HS; iintro HS
  rw [wp_ret]; imodintro
  iapply Hk; iexact HS

theorem part28 {Q : _ → sProp 𝕄} :
    St V K c 21 4 21
      ⊢ iprop((St V K c 21 7 21 -∗ Q ⟨⟩)
          -∗ wp frame (wpE (defs₀ (F := F)) 𝒱₀ (c : Thread nD τ) none) Set.univ
            (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c) Q) := by
  rw [k0_part28_eq_skeleton]; unfold k0_part28_skel
  simp only [Prog.lift, Prog.bind_op, Prog.bind_ret, Prog.pure_eq_ret]
  iintro HS Hk
  iapply (step_sent c 4 (by decide) rfl rfl rfl) $$ HS; iintro HS
  iapply (step_sent c 5 (by decide) rfl rfl rfl) $$ HS; iintro HS
  iapply (step_sent c 6 (by decide) rfl rfl rfl) $$ HS; iintro HS
  rw [wp_ret]; imodintro
  iapply Hk; iexact HS

theorem part29 {Q : _ → sProp 𝕄} :
    St V K c 21 7 21
      ⊢ iprop((St V K c 21 11 21 -∗ Q ⟨⟩)
          -∗ wp frame (wpE (defs₀ (F := F)) 𝒱₀ (c : Thread nD τ) none) Set.univ
            (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c) Q) := by
  rw [k0_part29_eq_skeleton]; unfold k0_part29_skel
  simp only [Prog.lift, Prog.bind_op, Prog.bind_ret, Prog.pure_eq_ret]
  iintro HS Hk
  iapply (step_sent c 7 (by decide) rfl rfl rfl) $$ HS; iintro HS
  iapply (step_sent c 8 (by decide) rfl rfl rfl) $$ HS; iintro HS
  iapply (step_sent c 9 (by decide) rfl rfl rfl) $$ HS; iintro HS
  iapply (step_sent c 10 (by decide) rfl rfl rfl) $$ HS; iintro HS
  rw [wp_ret]; imodintro
  iapply Hk; iexact HS

theorem part30 {Q : _ → sProp 𝕄} :
    St V K c 21 11 21
      ⊢ iprop((St V K c 21 14 21 -∗ Q ⟨⟩)
          -∗ wp frame (wpE (defs₀ (F := F)) 𝒱₀ (c : Thread nD τ) none) Set.univ
            (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c) Q) := by
  rw [k0_part30_eq_skeleton]; unfold k0_part30_skel
  simp only [Prog.lift, Prog.bind_op, Prog.bind_ret, Prog.pure_eq_ret]
  iintro HS Hk
  iapply (step_sent c 11 (by decide) rfl rfl rfl) $$ HS; iintro HS
  iapply (step_sent c 12 (by decide) rfl rfl rfl) $$ HS; iintro HS
  iapply (step_sent c 13 (by decide) rfl rfl rfl) $$ HS; iintro HS
  rw [wp_ret]; imodintro
  iapply Hk; iexact HS

theorem part31 {Q : _ → sProp 𝕄} :
    St V K c 21 14 21
      ⊢ iprop((St V K c 21 17 21 -∗ Q ⟨⟩)
          -∗ wp frame (wpE (defs₀ (F := F)) 𝒱₀ (c : Thread nD τ) none) Set.univ
            (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c) Q) := by
  rw [k0_part31_eq_skeleton]; unfold k0_part31_skel
  simp only [Prog.lift, Prog.bind_op, Prog.bind_ret, Prog.pure_eq_ret]
  iintro HS Hk
  iapply (step_sent c 14 (by decide) rfl rfl rfl) $$ HS; iintro HS
  iapply (step_sent c 15 (by decide) rfl rfl rfl) $$ HS; iintro HS
  iapply (step_sent c 16 (by decide) rfl rfl rfl) $$ HS; iintro HS
  rw [wp_ret]; imodintro
  iapply Hk; iexact HS

end Cert.Mlp

end
-- ==== Proof.Finish.lean ====
/-
The end of the body: the device's own result is written and sent, the others' results are written as they come.
-/
module

public import proofs.«01_k».proof.Proof.Staging

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Cix → ℕ) (c : Dev nD)

/-- The output buffer with the blocks in `D` written. -/
def OutAt (D : Finset (Dev nD)) : sProp 𝕄 :=
  iprop(∃ X : S2048x256.Idx → Elt F .f32, ⌜Filled (outR I c) D X⌝ ∗ owns (c : Thread nD τ) (Memref.whole cc0_stg7_0) fullShare X)

omit [FloatOps F] in
theorem nb_ne1 : nb 1 c ≠ c := by revert c; decide
omit [FloatOps F] in
theorem nb_ne2 : nb 2 c ≠ c := by revert c; decide
omit [FloatOps F] in
theorem nb_ne3 : nb 3 c ≠ c := by revert c; decide
omit [FloatOps F] in
theorem nb_all : ∀ d, d ∈ insert (nb 2 c) (insert (nb 1 c) ({nb 3 c, nb 0 c} : Finset (Dev nD))) := by revert c; decide
theorem outR_own (j : Dev nD) (h : j = c) : outR I c j = res I c := if_pos h
theorem outR_other (j : Dev nD) (h : j ≠ c) : outR I c j = extf .f32 (truncf .bf16 (res I j) (by decide)) (by decide) := if_neg h

theorem part24 {Q : _ → sProp 𝕄} (v2 v5 v7 v9 : BitVec 32) (v671 : FVec F S512x256 .f32) (v684 : FVec F S256x256 .bf16) (v687 : FVec F S512x256 .f32)
    (h45 : k0_pay45 v671 v684 v687 = res I c) (h46 : k0_pay46 v671 v684 v687 = up3 (Vof I 6 c)) :
    iprop(St (Vof I) K c 18 0 18 ∗ slotAny (F := F) c 6 (nb 0 c) ∗ OutAt I c ∅)
      ⊢ iprop((∀ v : BitVec 32, (St (Vof I) K c 20 0 18 ∗ slotAt (Vof I) c 6 (nb 0 c) fullShare.right.right ∗ OutAt I c {nb 0 c}) -∗ Q v)
          -∗ wp frame (wpE (defs₀ (F := F)) 𝒱₀ (c : Thread nD τ) none) Set.univ
            (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v7 v9 v671 v684 v687) Q) := by
  rw [k0_part24_eq_skeleton]; unfold k0_part24_skel
  simp only [Prog.lift, Prog.bind_op, Prog.bind_ret, Prog.pure_eq_ret]
  unfold slotAny OutAt
  iintro ⟨HS, ⟨%G, Hg⟩, ⟨%X, %hX, HX⟩⟩ Hk
  iapply (wp_load_sub c fullShare (Memref.whole cc0_stg7_0) X _) $$ HX; iintro HX
  iapply (wp_store_block c (Memref.whole cc0_stg7_0) (outR I c) ∅ X hX (nb 0 c) (o25 c) _ (h45.trans (outR_own I c (nb 0 c) (nb_zero c)).symm)) $$ HX
  iintro %Y %hY HX
  iapply (wp_load_gat gM c fullShare G (nb 0 c) (o26 c)) $$ [Hg]
  · iexact Hg
  iintro Hg
  rw [h46]
  iapply (wp_store_gat c (nb 0 c) G (Vof I 6 c) (o26 c)) $$ Hg; iintro Hg
  ihave Hq := (slot_split c (Vof I) 6 (nb 0 c) (Vof I 6 c) (by rw [nb_zero])) $$ [Hg]
  · iexact Hg
  icases Hq with ⟨Hl, Hm, Hr⟩
  iapply (step_send c 18 6 (nb 0 c) fullShare.left (by decide) rfl (by decide) rfl rfl rfl (gatSlot_of gM (nb 0 c) _ (o27 c) _ _ _) (gatSlot_of gM (nb 0 c) _ (o27 c) _ _ _) (d22 c) rfl rfl) $$ HS Hl; iintro HS
  iapply (step_send c 19 6 (nb 0 c) fullShare.right.left (by decide) rfl (by decide) rfl rfl rfl (gatSlot_of gM (nb 0 c) _ (o27 c) _ _ _) (gatSlot_of gM (nb 0 c) _ (o27 c) _ _ _) (d23 c) rfl rfl) $$ HS Hm; iintro HS
  rw [wp_ret]; imodintro
  iapply Hk
  isplitl [HS]; · iexact HS
  isplitl [Hr]; · iexact Hr
  iexists Y
  isplitr; · ipureintro; exact hY
  iexact HX

theorem part25 {Q : _ → sProp 𝕄} (v2 v5 v719 : BitVec 32) :
    iprop(St (Vof I) K c 20 0 18 ∗ slotAt (Vof I) c 6 (nb 0 c) fullShare.right.right ∗ OutAt I c {nb 0 c})
      ⊢ iprop(((St (Vof I) K c 21 0 19 ∗ OutAt I c {nb 3 c, nb 0 c}) -∗ Q ⟨⟩)
          -∗ wp frame (wpE (defs₀ (F := F)) 𝒱₀ (c : Thread nD τ) none) Set.univ
            (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v5 v719) Q) := by
  rw [k0_part25_eq_skeleton]; unfold k0_part25_skel
  simp only [Prog.lift, Prog.bind_op, Prog.bind_ret, Prog.pure_eq_ret]
  unfold OutAt
  iintro ⟨HS, Hr, ⟨%X, %hX, HX⟩⟩ Hk
  iapply (step_send c 20 6 (nb 0 c) fullShare.right.right (by decide) rfl (by decide) rfl rfl rfl (gatSlot_of gM (nb 0 c) _ (o27 c) _ _ _) (gatSlot_of gM (nb 0 c) _ (o27 c) _ _ _) (d24 c) rfl rfl) $$ HS Hr; iintro HS
  iapply (step_recv c 19 (by decide) rfl (by decide) rfl rfl rfl) $$ HS; iintro HS
  iapply (wp_load_res c 18 19 (nb 3 c) (by decide) rfl rfl (slotR_eq 19 c) (o29 c)) $$ HS; iintro HS
  iapply (wp_load_sub c fullShare (Memref.whole cc0_stg7_0) X _) $$ HX; iintro HX
  iapply (wp_store_block c (Memref.whole cc0_stg7_0) (outR I c) {nb 0 c} X hX (nb 3 c) (o30 c) _ ((pay47_val _).trans (outR_other I c (nb 3 c) (nb_ne3 c)).symm)) $$ HX
  iintro %Y %hY HX
  rw [wp_ret]; imodintro
  iapply Hk
  isplitl [HS]; · iexact HS
  iexists Y
  isplitr; · ipureintro; exact hY
  iexact HX

theorem part26 {Q : _ → sProp 𝕄} (v2 v7 v9 : BitVec 32) :
    iprop(St (Vof I) K c 21 0 19 ∗ OutAt I c {nb 3 c, nb 0 c})
      ⊢ iprop(((St (Vof I) K c 21 1 21 ∗ owns (c : Thread nD τ) (Memref.whole cc0_stg7_0) fullShare (pile (outR I c))) -∗ Q ⟨⟩)
          -∗ wp frame (wpE (defs₀ (F := F)) 𝒱₀ (c : Thread nD τ) none) Set.univ
            (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6 c v2 v7 v9) Q) := by
  rw [k0_part26_eq_skeleton]; unfold k0_part26_skel
  simp only [Prog.lift, Prog.bind_op, Prog.bind_ret, Prog.pure_eq_ret]
  unfold OutAt
  iintro ⟨HS, ⟨%X, %hX, HX⟩⟩ Hk
  iapply (step_recv c 20 (by decide) rfl (by decide) rfl rfl rfl) $$ HS; iintro HS
  iapply (wp_load_res c 19 20 (nb 1 c) (by decide) rfl rfl (slotR_eq 20 c) (o32_1 c)) $$ HS; iintro HS
  iapply (wp_load_sub c fullShare (Memref.whole cc0_stg7_0) X _) $$ HX; iintro HX
  iapply (wp_store_block c (Memref.whole cc0_stg7_0) (outR I c) {nb 3 c, nb 0 c} X hX (nb 1 c) (o33_1 c) _ ((pay48_val _).trans (outR_other I c (nb 1 c) (nb_ne1 c)).symm)) $$ HX
  iintro %Y %hY HX
  iapply (step_recv c 18 (by decide) rfl (by decide) rfl rfl rfl) $$ HS; iintro HS
  iapply (wp_load_res c 20 18 (nb 2 c) (by decide) rfl rfl (slotR_eq 18 c) (o32_2 c)) $$ HS; iintro HS
  iapply (wp_load_sub c fullShare (Memref.whole cc0_stg7_0) Y _) $$ HX; iintro HX
  iapply (wp_store_block c (Memref.whole cc0_stg7_0) (outR I c) (insert (nb 1 c) {nb 3 c, nb 0 c}) Y hY (nb 2 c) (o33_2 c) _ ((pay49_val _).trans (outR_other I c (nb 2 c) (nb_ne2 c)).symm)) $$ HX
  iintro %Z %hZ HX
  rw [filled_all (nb_all c) hZ]
  iapply (step_sent c 0 (by decide) rfl rfl rfl) $$ HS; iintro HS
  rw [wp_ret]; imodintro
  iapply Hk; iframe

end Cert.Mlp

end
-- ==== Proof.Body.lean ====
/-
The whole body on one device: what it needs and what it leaves.
-/
module

public import proofs.«01_k».proof.Proof.Start
public import proofs.«01_k».proof.Proof.Layers
public import proofs.«01_k».proof.Proof.Drain
public import proofs.«01_k».proof.Proof.Finish

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Cix → ℕ) (c : Dev nD)

/-- A program in sequence. -/
theorem wp_seq {α β : Type} {Q : β → sProp 𝕄} {p : Prog (TpuEff nD τ sig (Elt F) Λ₀ .tc) α} {k : α → Prog (TpuEff nD τ sig (Elt F) Λ₀ .tc) β} :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q := Entails.of_eq (wp_bind _ _ _ p k Q).symm

/-- The last values the layers hand on are those of the result. -/
theorem vals {v143 : FVec F S512x256 .bf16} {v171 : FVec F S512x256 .f32} {v174 : FVec F S512x256 .bf16} {v193 : FVec F S512x256 .f32} {v262 : FVec F S512x256 .f32} {v281 : FVec F S512x256 .f32} {v319 : FVec F S512x256 .f32} {v339 : FVec F S512x256 .bf16} {v378 : FVec F S512x256 .f32} {v383 : FVec F S256x256 .bf16} {v387 : FVec F S512x256 .bf16} {cst_344 : FVec F S512x256 .f32} {v389 : FVec F S512x256 .f32} {v458 : FVec F S512x256 .f32} {v469 : FVec F S512x256 .bf16} {v496 : FVec F S512x256 .f32} {v515 : FVec F S512x256 .f32} {v528 : FVec F S256x256 .bf16} {v532 : FVec F S512x256 .bf16} {cst_489 : FVec F S512x256 .f32} {v535 : FVec F S512x256 .bf16} {v558 : FVec F S256x256 .bf16} {v562 : FVec F S512x256 .bf16} {v585 : FVec F S512x256 .f32} {v614 : FVec F S512x256 .f32} {v652 : FVec F S512x256 .f32} {v671 : FVec F S512x256 .f32} {v684 : FVec F S256x256 .bf16} {v687 : FVec F S512x256 .f32}
    (h143 : v143 = xs0 I c)
    (h_v171 : v171 = k0_pay15 v143 (up4 (Vof I 0 (nb 0 c))))
    (h_v174 : v174 = k0_pay16 (up4 (Vof I 3 (nb 0 c))))
    (h_v193 : v193 = k0_pay17 v143 v171 v174 (up4 (Vof I 0 (nb 3 c))))
    (h_v262 : v262 = k0_pay18 v143 v193 (up4 (Vof I 3 (nb 1 c))))
    (h_v281 : v281 = k0_pay19 v143 v262 (up4 (Vof I 0 (nb 1 c))))
    (h_v319 : v319 = k0_pay20 v143 v281 (up4 (Vof I 3 (nb 3 c))) (up4 (Vof I 0 (nb 2 c))))
    (h_v339 : v339 = k0_pay21 v143 v319 (up4 (Vof I 3 (nb 2 c))))
    (h_v378 : v378 = k0_pay22 v339 (up4 (Vof I 1 (nb 0 c))) (up4 (Vof I 4 (nb 0 c))))
    (h_v383 : v383 = k0_pay24 (up4 (Vof I 1 (nb 3 c))))
    (h_v387 : v387 = k0_pay25 v339 (up4 (Vof I 1 (nb 3 c))))
    (h_cst_344 : cst_344 = constant S512x256 .f32 0x00000000#32)
    (h_v389 : v389 = k0_pay26 v378 v383 v387 cst_344)
    (h_v458 : v458 = k0_pay27 v339 v389 (up4 (Vof I 4 (nb 1 c))))
    (h_v469 : v469 = k0_pay28 (up4 (Vof I 1 (nb 1 c))))
    (h_v496 : v496 = k0_pay29 v339 v458 v469 (up4 (Vof I 4 (nb 3 c))))
    (h_v515 : v515 = k0_pay30 v339 v496 (up4 (Vof I 1 (nb 2 c))))
    (h_v528 : v528 = k0_pay32 (up4 (Vof I 4 (nb 2 c))))
    (h_v532 : v532 = k0_pay33 v339 (up4 (Vof I 4 (nb 2 c))))
    (h_cst_489 : cst_489 = constant S512x256 .f32 0x00000000#32)
    (h_v535 : v535 = k0_pay34 v515 v528 v532 cst_489)
    (h_v558 : v558 = k0_pay36 (up4 (Vof I 2 (nb 0 c))))
    (h_v562 : v562 = k0_pay37 v515 v528 v532 cst_489 (up4 (Vof I 2 (nb 0 c))))
    (h_v585 : v585 = k0_pay38 v535 v558 v562 (up4 (Vof I 5 (nb 0 c))) (up4 (Vof I 2 (nb 3 c))))
    (h_v614 : v614 = k0_pay39 v535 v585 (up4 (Vof I 5 (nb 1 c))))
    (h_v652 : v652 = k0_pay40 v535 v614 (up4 (Vof I 2 (nb 1 c))) (up4 (Vof I 5 (nb 3 c))))
    (h_v671 : v671 = k0_pay41 v535 v652 (up4 (Vof I 2 (nb 2 c))))
    (h_v684 : v684 = k0_pay43 (up4 (Vof I 5 (nb 2 c))))
    (h_v687 : v687 = k0_pay44 v535 (up4 (Vof I 5 (nb 2 c)))) :
    k0_pay45 v671 v684 v687 = res I c ∧ k0_pay46 v671 v684 v687 = up3 (Vof I 6 c) := by
  have e1 : v339 = xs1 I c := by
    subst_vars
    simp only [pay15_val, pay16_val, pay17_val, pay18_val, pay19_val, pay20_val, pay21_val, pay22_val, pay24_val, pay25_val, pay26_val, pay27_val, pay28_val, pay29_val, pay30_val, pay32_val, pay33_val, pay34_val, pay36_val, pay37_val, pay38_val, pay39_val, pay40_val, pay41_val, pay43_val, pay44_val, pay45_val, pay46_val]
    rfl
  have e2 : v535 = xs2 I c := by
    subst h_v378 h_v383 h_v387 h_cst_344 h_v389 h_v458 h_v469 h_v496 h_v515 h_v528 h_v532 h_cst_489 h_v535
    rw [e1]
    simp only [pay15_val, pay16_val, pay17_val, pay18_val, pay19_val, pay20_val, pay21_val, pay22_val, pay24_val, pay25_val, pay26_val, pay27_val, pay28_val, pay29_val, pay30_val, pay32_val, pay33_val, pay34_val, pay36_val, pay37_val, pay38_val, pay39_val, pay40_val, pay41_val, pay43_val, pay44_val, pay45_val, pay46_val]
    rfl
  have e3 : v671 = addf (addf (addf (addf (addf (addf (dot (xs2 I c) (chA I 2 (nb 0 c))) (dot (xs2 I c) (chB I 2 (nb 0 c)))) (dot (xs2 I c) (chA I 2 (nb 3 c)))) (dot (xs2 I c) (chB I 2 (nb 1 c))))
    (dot (xs2 I c) (chA I 2 (nb 1 c)))) (dot (xs2 I c) (chB I 2 (nb 3 c)))) (dot (xs2 I c) (chA I 2 (nb 2 c))) := by
    have e4 : v562 = truncf .bf16 (hid (xs2 I c) (Vof I 2 (nb 0 c))) bitsLt_bf16_f32 := by
      rw [← e2]
      subst h_v562 h_v535 h_cst_489 h_v532 h_v528
      simp only [pay15_val, pay16_val, pay17_val, pay18_val, pay19_val, pay20_val, pay21_val, pay22_val, pay24_val, pay25_val, pay26_val, pay27_val, pay28_val, pay29_val, pay30_val, pay32_val, pay33_val, pay34_val, pay36_val, pay37_val, pay38_val, pay39_val, pay40_val, pay41_val, pay43_val, pay44_val, pay45_val, pay46_val]
    subst h_v671 h_v652 h_v614 h_v585
    rw [e4, h_v558, e2]
    simp only [pay15_val, pay16_val, pay17_val, pay18_val, pay19_val, pay20_val, pay21_val, pay22_val, pay24_val, pay25_val, pay26_val, pay27_val, pay28_val, pay29_val, pay30_val, pay32_val, pay33_val, pay34_val, pay36_val, pay37_val, pay38_val, pay39_val, pay40_val, pay41_val, pay43_val, pay44_val, pay45_val, pay46_val]
    rfl
  rw [e3, h_v684, h_v687, e2]
  simp only [pay15_val, pay16_val, pay17_val, pay18_val, pay19_val, pay20_val, pay21_val, pay22_val, pay24_val, pay25_val, pay26_val, pay27_val, pay28_val, pay29_val, pay30_val, pay32_val, pay33_val, pay34_val, pay36_val, pay37_val, pay38_val, pay39_val, pay40_val, pay41_val, pay43_val, pay44_val, pay45_val, pay46_val]
  exact ⟨rfl, rfl⟩

/-- What the device's windows and own slots hold when the body starts. -/
def Own0 : sProp 𝕄 :=
  iprop(slotAny (F := F) c 0 (nb 0 c) ∗ slotAny (F := F) c 1 (nb 0 c) ∗ slotAny (F := F) c 2 (nb 0 c) ∗ slotAny (F := F) c 3 (nb 0 c) ∗ slotAny (F := F) c 4 (nb 0 c) ∗ slotAny (F := F) c 5 (nb 0 c) ∗ slotAny (F := F) c 6 (nb 0 c))
def Wins : sProp 𝕄 :=
  iprop(owns (c : Thread nD τ) (Memref.whole cc0_stg0_0) fullShare (I.x c) ∗ owns (c : Thread nD τ) (Memref.whole cc0_stg1_0) fullShare (I.wi 0 c) ∗ owns (c : Thread nD τ) (Memref.whole cc0_stg2_0) fullShare (I.wo 0 c) ∗ owns (c : Thread nD τ) (Memref.whole cc0_stg3_0) fullShare (I.wi 1 c) ∗ owns (c : Thread nD τ) (Memref.whole cc0_stg4_0) fullShare (I.wo 1 c) ∗ owns (c : Thread nD τ) (Memref.whole cc0_stg5_0) fullShare (I.wi 2 c) ∗ owns (c : Thread nD τ) (Memref.whole cc0_stg6_0) fullShare (I.wo 2 c))
/-- The shares of the own slots that are left when the body ends. -/
def Own1 : sProp 𝕄 :=
  iprop(slotAt (Vof I) c 0 (nb 0 c) fullShare.right.right ∗ slotAt (Vof I) c 1 (nb 0 c) fullShare.right.right ∗ slotAt (Vof I) c 2 (nb 0 c) fullShare.right.right ∗ slotAt (Vof I) c 3 (nb 0 c) fullShare.right.right ∗ slotAt (Vof I) c 4 (nb 0 c) fullShare.right.right ∗ slotAt (Vof I) c 5 (nb 0 c) fullShare.right.right)

theorem part32 {Q : _ → sProp 𝕄} :
    iprop(Pre (Vof I) K c ∗ Own0 (F := F) c ∗ Wins I c ∗ OutAt I c ∅)
      ⊢ iprop(((St (Vof I) K c 21 19 21 ∗ semVal (barCell c) 0 ∗ Own1 I c ∗ Wins I c ∗ owns (c : Thread nD τ) (Memref.whole cc0_stg7_0) fullShare (pile (outR I c))) -∗ Q c)
          -∗ wp frame (wpE (defs₀ (F := F)) 𝒱₀ (c : Thread nD τ) none) Set.univ (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6) Q) := by
  rw [k0_part32_eq_skeleton]; unfold k0_part32_skel Own0 Own1 Wins
  iintro ⟨HP, ⟨Hs0, Hs1, Hs2, Hs3, Hs4, Hs5, Hs6⟩, ⟨Hi0, Hi1, Hi2, Hi3, Hi4, Hi5, Hi6⟩, HX⟩ Hk
  iapply (wp_seq c)
  iapply (part1 K c I) $$ [HP Hs0 Hi1 Hi2]
  · iframe
  iintro %v2 %v5 %v7 %v9 ⟨HS, Hz, Hs0, Hi1, Hi2⟩
  dsimp only
  iapply (wp_seq c)
  iapply (part2 I K c _ _ _ rfl) $$ [HS Hs0 Hs3 Hi1 Hi2]
  · iframe
  iintro ⟨HS, H0m, Ho0, H3l, H3m, Ho3, Hi1, Hi2⟩
  dsimp only
  iapply (wp_seq c)
  iapply (part3 (Vof I) K c _ _) $$ [HS H3l H0m]
  · iframe
  iintro HS
  dsimp only
  iapply (wp_seq c)
  iapply (part4 I K c _) $$ [HS H3m Hs1 Hs4 Hi3 Hi4]
  · iframe
  iintro ⟨HS, H1l, H1m, Ho1, H4l, H4m, Ho4, Hi3, Hi4⟩
  dsimp only
  iapply (wp_seq c)
  iapply (part5 I c _) $$ [Hs2 Hs5 Hi5 Hi6 Hi0]
  · iframe
  iintro ⟨H2l, H2m, Ho2, H5l, H5m, Ho5, Hi5, Hi6, Hi0⟩
  dsimp only
  iapply (wp_seq c)
  iapply (part6 (Vof I) K c _ _ _) $$ [HS Ho0 Ho3]
  · iframe
  iintro ⟨HS, Ho0, Ho3⟩
  dsimp only
  iapply (wp_seq c)
  iapply (part7 (Vof I) K c _ _ _ _ _) $$ HS
  iintro ⟨HS, Hf⟩
  dsimp only
  iapply (wp_seq c)
  iapply (part8 (Vof I) K c _) $$ [HS Hf H1l H4l]
  · iframe
  iintro HS
  dsimp only
  iapply (wp_seq c)
  iapply (part9 (Vof I) K c _ _ _ _) $$ [HS H1m H4m]
  · iframe
  iintro HS
  dsimp only
  iapply (wp_seq c)
  iapply (part10 (Vof I) K c _ _ _ _ _) $$ HS
  iintro HS
  dsimp only
  iapply (wp_seq c)
  iapply (part11 (Vof I) K c _ _ _ _) $$ HS
  iintro HS
  dsimp only
  iapply (wp_seq c)
  iapply (part12 (Vof I) K c _ _ _ _ _) $$ HS
  iintro ⟨HS, Hf⟩
  dsimp only
  iapply (wp_seq c)
  iapply (part13 (Vof I) K c _ _ _) $$ [HS Hf Ho1 Ho4]
  · iframe
  iintro ⟨HS, Ho1, Ho4⟩
  dsimp only
  iapply (wp_seq c)
  iapply (part14 (Vof I) K c _ _ _ _ _ _ _) $$ HS
  iintro HS
  dsimp only
  iapply (wp_seq c)
  iapply (part15 (Vof I) K c _ _) $$ [HS H2l H5l H2m]
  · iframe
  iintro HS
  dsimp only
  iapply (wp_seq c)
  iapply (part16 (Vof I) K c _ _ _ _ _) $$ [HS H5m]
  · iframe
  iintro HS
  dsimp only
  iapply (wp_seq c)
  iapply (part17 (Vof I) K c _ _ _ _ _) $$ HS
  iintro HS
  dsimp only
  iapply (wp_seq c)
  iapply (part18 (Vof I) K c _ _ _ _) $$ HS
  iintro HS
  dsimp only
  iapply (wp_seq c)
  iapply (part19 (Vof I) K c _ _ _ _ _ _) $$ [HS Ho2]
  · iframe
  iintro ⟨HS, Ho2⟩
  dsimp only
  iapply (wp_seq c)
  iapply (part20 (Vof I) K c _ _ _ _ _) $$ [HS Ho5]
  · iframe
  iintro ⟨HS, Ho5, Hf⟩
  dsimp only
  iapply (wp_seq c)
  iapply (part21 (Vof I) K c _ _ _ _ _) $$ [HS Hf]
  · iframe
  iintro HS
  dsimp only
  iapply (wp_seq c)
  iapply (part22 (Vof I) K c _ _ _ _) $$ HS
  iintro HS
  dsimp only
  iapply (wp_seq c)
  iapply (part23 (Vof I) K c _ _ _ _) $$ HS
  iintro HS
  dsimp only
  iapply (wp_seq c)
  iapply (part24 I K c _ _ _ _ _ _ _ (vals I c rfl rfl rfl rfl rfl rfl rfl rfl rfl rfl rfl rfl rfl rfl rfl rfl rfl rfl rfl rfl rfl rfl rfl rfl rfl rfl rfl rfl rfl).1 (vals I c rfl rfl rfl rfl rfl rfl rfl rfl rfl rfl rfl rfl rfl rfl rfl rfl rfl rfl rfl rfl rfl rfl rfl rfl rfl rfl rfl rfl rfl).2) $$ [HS Hs6 HX]
  · iframe
  iintro %v719 ⟨HS, Hr6, HX⟩
  dsimp only
  iapply (wp_seq c)
  iapply (part25 I K c _ _ _) $$ [HS Hr6 HX]
  · iframe
  iintro ⟨HS, HX⟩
  dsimp only
  iapply (wp_seq c)
  iapply (part26 I K c _ _ _) $$ [HS HX]
  · iframe
  iintro ⟨HS, HX⟩
  dsimp only
  iapply (wp_seq c)
  iapply (part27 (Vof I) K c) $$ HS
  iintro HS
  dsimp only
  iapply (wp_seq c)
  iapply (part28 (Vof I) K c) $$ HS
  iintro HS
  dsimp only
  iapply (wp_seq c)
  iapply (part29 (Vof I) K c) $$ HS
  iintro HS
  dsimp only
  iapply (wp_seq c)
  iapply (part30 (Vof I) K c) $$ HS
  iintro HS
  dsimp only
  iapply (wp_seq c)
  iapply (part31 (Vof I) K c) $$ HS
  iintro HS
  dsimp only
  simp only [Prog.lift, Prog.bind_op, Prog.bind_ret, Prog.pure_eq_ret]
  iapply (step_sent c 17 (by decide) rfl rfl rfl) $$ HS; iintro HS
  iapply (step_sent c 18 (by decide) rfl rfl rfl) $$ HS; iintro HS
  rw [wp_ret]; imodintro
  iapply Hk; iframe

theorem body {Q : _ → sProp 𝕄} :
    iprop(Pre (Vof I) K c ∗ Own0 (F := F) c ∗ Wins I c ∗ OutAt I c ∅)
      ⊢ iprop(((St (Vof I) K c 21 21 21 ∗ semVal (barCell c) 0 ∗ Own1 I c ∗ Wins I c ∗ owns (c : Thread nD τ) (Memref.whole cc0_stg7_0) fullShare (pile (outR I c))) -∗ Q ⟨⟩)
          -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6) Q) := by
  rw [cc0_body_eq_skeleton]; unfold cc0_body_skel
  iintro HP Hk
  iapply (wp_seq c)
  iapply (part32 I K c) $$ HP
  iintro ⟨HS, Hr⟩
  dsimp only
  simp only [Prog.lift, Prog.bind_op, Prog.bind_ret, Prog.pure_eq_ret]
  iapply (step_sent c 19 (by decide) rfl rfl rfl) $$ HS; iintro HS
  iapply (step_sent c 20 (by decide) rfl rfl rfl) $$ HS; iintro HS
  rw [wp_ret]; imodintro
  iapply Hk; iframe

end Cert.Mlp

end
-- ==== Proof.Room.lean ====
/-
The three buffers of the kernel as their 28 slots, and these slots by their use: the device's own seven and the 21 it
receives in.
-/
module

public import proofs.«01_k».proof.Proof.Body

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## A buffer in slots -/

/-- The part of a weight buffer that is one slot. -/
abbrev layI (p : Fin 3 × Fin 4) : Finset S3x4x512x256.Idx := (layRect p.1 p.2).set
abbrev gatI (j : Fin 4) : Finset S4x512x256.Idx := (gatRect j).set

theorem layI_disj (p p' : Fin 3 × Fin 4) (h : p ≠ p') : Disjoint (layI p) (layI p') := by
  rw [Finset.disjoint_left]
  intro y hy hy'
  rw [Rect.mem_set_unit] at hy hy'
  have a0 := hy 0; have a1 := hy 1; have b0 := hy' 0; have b1 := hy' 1
  simp at a0 a1 b0 b1
  exact h (Prod.ext (Fin.ext (by omega)) (Fin.ext (by omega)))
theorem layI_all : (Finset.univ.biUnion layI) = Finset.univ := by
  ext y
  refine ⟨fun _ => Finset.mem_univ _, fun _ => Finset.mem_biUnion.mpr ⟨(⟨(y 0).val, (y 0).isLt⟩, ⟨(y 1).val, (y 1).isLt⟩), Finset.mem_univ _, ?_⟩⟩
  rw [Rect.mem_set_unit]
  intro a
  have hb := (y a).isLt
  fin_cases a
  · exact ⟨Nat.le_refl _, Nat.lt_succ_self _⟩
  · exact ⟨Nat.le_refl _, Nat.lt_succ_self _⟩
  · exact ⟨Nat.zero_le _, by simpa using hb⟩
  · exact ⟨Nat.zero_le _, by simpa using hb⟩
theorem gatI_disj (p p' : Fin 4) (h : p ≠ p') : Disjoint (gatI p) (gatI p') := by
  rw [Finset.disjoint_left]
  intro y hy hy'
  rw [Rect.mem_set_unit] at hy hy'
  have a0 := hy 0; have b0 := hy' 0
  simp at a0 b0
  exact h (Fin.ext (by omega))
theorem gatI_all : (Finset.univ.biUnion gatI) = Finset.univ := by
  ext y
  refine ⟨fun _ => Finset.mem_univ _, fun _ => Finset.mem_biUnion.mpr ⟨⟨(y 0).val, (y 0).isLt⟩, Finset.mem_univ _, ?_⟩⟩
  rw [Rect.mem_set_unit]
  intro a
  have hb := (y a).isLt
  fin_cases a
  · exact ⟨Nat.le_refl _, Nat.lt_succ_self _⟩
  · exact ⟨Nat.zero_le _, by simpa using hb⟩
  · exact ⟨Nat.zero_le _, by simpa using hb⟩

/-- A piece of a buffer at some contents. -/
abbrev pcA (p : Fin 3 × Fin 4) : sProp 𝕄 := iprop(∃ f : Buf (Elt F) ((c : Thread nD τ).loc cc0_scratch0), ((c : Thread nD τ).loc cc0_scratch0) ↦[layI p]{fullShare} f)
abbrev pcB (p : Fin 3 × Fin 4) : sProp 𝕄 := iprop(∃ f : Buf (Elt F) ((c : Thread nD τ).loc cc0_scratch1), ((c : Thread nD τ).loc cc0_scratch1) ↦[layI p]{fullShare} f)
abbrev pcG (p : Fin 4) : sProp 𝕄 := iprop(∃ f : Buf (Elt F) ((c : Thread nD τ).loc cc0_scratch2), ((c : Thread nD τ).loc cc0_scratch2) ↦[gatI p]{fullShare} f)

omit [FloatOps F] in
theorem piece_any (r : Ref sig .tc) (S : Finset (Idx ((c : Thread nD τ).loc r))) (f : Buf (Elt F) ((c : Thread nD τ).loc r)) :
    (((c : Thread nD τ).loc r) ↦[S]{fullShare} f : sProp 𝕄) ⊢ iprop(∃ f : Buf (Elt F) ((c : Thread nD τ).loc r), ((c : Thread nD τ).loc r) ↦[S]{fullShare} f) := by
  iintro H; iexists f; iexact H

omit [FloatOps F] in
/-- A buffer at some contents is its pieces at some contents. -/
theorem whole_pieces {B : Type} [Fintype B] [DecidableEq B] (r : Ref sig .tc) (J : B → Finset (Idx ((c : Thread nD τ).loc r)))
    (hd : ∀ b b', b ≠ b' → Disjoint (J b) (J b')) (hc : Finset.univ.biUnion J = Finset.univ) (f₀ : Buf (Elt F) ((c : Thread nD τ).loc r)) :
    (iprop(∃ f : Buf (Elt F) ((c : Thread nD τ).loc r), ((c : Thread nD τ).loc r) ↦{fullShare} f) : sProp 𝕄)
      = bigSep Finset.univ fun b => iprop(∃ f : Buf (Elt F) ((c : Thread nD τ).loc r), ((c : Thread nD τ).loc r) ↦[J b]{fullShare} f) := by
  refine BI.equiv_iff.mp ⟨?_, Ring.pointsTo_blocks_join_exists J hd hc f₀⟩
  show iprop(∃ f : Buf (Elt F) ((c : Thread nD τ).loc r), ((c : Thread nD τ).loc r) ↦{fullShare} f)
      ⊢ bigSep Finset.univ fun b => iprop(∃ f : Buf (Elt F) ((c : Thread nD τ).loc r), ((c : Thread nD τ).loc r) ↦[J b]{fullShare} f)
  iintro ⟨%f, H⟩
  iapply ((Entails.of_eq (Ring.pointsTo_blocks (Ix := Unit) (Name := ℕ) (U := UU) (Lvl := ℕ) J hd hc (q := fullShare) f)).trans
    (bigSep_mono fun b _ => piece_any c r (J b) f))
  iexact H

omit [FloatOps F] in
/-- A slot at some contents. -/
theorem any_of {m : Memref sig .tc .vmem S512x256 .bf16} :
    (iprop(∃ X : S512x256.Idx → Elt F .bf16, owns (c : Thread nD τ) m fullShare X) : sProp 𝕄)
      = iprop(∃ f : Buf (Elt F) (m.view.loc (c : Thread nD τ)), (m.view.loc (c : Thread nD τ)) ↦[m.view.set]{fullShare} f) := by
  refine BI.equiv_iff.mp ⟨?_, ?_⟩
  · show iprop(∃ X : S512x256.Idx → Elt F .bf16, owns (c : Thread nD τ) m fullShare X)
      ⊢ iprop(∃ f : Buf (Elt F) (m.view.loc (c : Thread nD τ)), (m.view.loc (c : Thread nD τ)) ↦[m.view.set]{fullShare} f)
    unfold owns
    iintro ⟨%X, %f, -, H⟩; iexists f; iexact H
  · show iprop(∃ f : Buf (Elt F) (m.view.loc (c : Thread nD τ)), (m.view.loc (c : Thread nD τ)) ↦[m.view.set]{fullShare} f)
      ⊢ iprop(∃ X : S512x256.Idx → Elt F .bf16, owns (c : Thread nD τ) m fullShare X)
    unfold owns
    iintro ⟨%f, H⟩; iexists (m.view.read (Elt F) f); iexists f
    isplitr; · ipureintro; rfl
    iexact H

omit [FloatOps F] in
theorem layA_any (k : Fin 3) (j : Fin 4) (b : Fin 7) (hb : bufSlot b j = laySlot aM k j) : slotAny (F := F) c b j = pcA c (k, j) := by
  unfold slotAny
  rw [any_of c, hb]
  show iprop(∃ f : Buf (Elt F) ((c : Thread nD τ).loc cc0_scratch0), ((c : Thread nD τ).loc cc0_scratch0) ↦[(laySlot aM k j).view.set]{fullShare} f) = _
  rw [lay_set]
  exact congrArg (fun S : Finset S3x4x512x256.Idx => (iprop(∃ f : Buf (Elt F) ((c : Thread nD τ).loc cc0_scratch0), ((c : Thread nD τ).loc cc0_scratch0) ↦[S]{fullShare} f) : sProp 𝕄)) (Finset.map_refl)

omit [FloatOps F] in
theorem layB_any (k : Fin 3) (j : Fin 4) (b : Fin 7) (hb : bufSlot b j = laySlot bM k j) : slotAny (F := F) c b j = pcB c (k, j) := by
  unfold slotAny
  rw [any_of c, hb]
  show iprop(∃ f : Buf (Elt F) ((c : Thread nD τ).loc cc0_scratch1), ((c : Thread nD τ).loc cc0_scratch1) ↦[(laySlot bM k j).view.set]{fullShare} f) = _
  rw [lay_set]
  exact congrArg (fun S : Finset S3x4x512x256.Idx => (iprop(∃ f : Buf (Elt F) ((c : Thread nD τ).loc cc0_scratch1), ((c : Thread nD τ).loc cc0_scratch1) ↦[S]{fullShare} f) : sProp 𝕄)) (Finset.map_refl)

omit [FloatOps F] in
theorem gat_any (j : Fin 4) : slotAny (F := F) c 6 j = pcG c j := by
  unfold slotAny
  rw [any_of c]
  show iprop(∃ f : Buf (Elt F) ((c : Thread nD τ).loc cc0_scratch2), ((c : Thread nD τ).loc cc0_scratch2) ↦[(gatSlot gM j).view.set]{fullShare} f) = _
  rw [gat_set]
  exact congrArg (fun S : Finset S4x512x256.Idx => (iprop(∃ f : Buf (Elt F) ((c : Thread nD τ).loc cc0_scratch2), ((c : Thread nD τ).loc cc0_scratch2) ↦[S]{fullShare} f) : sProp 𝕄)) (Finset.map_refl)

/-- The kernel's three buffers at some contents. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Every slot, by layer and by device. -/
def allSlots : sProp 𝕄 := bigSep Finset.univ fun p : Fin 7 × Fin 4 => slotAny (F := F) c p.1 p.2

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem regroup7 (P1 P2 P3 P4 P5 P6 P7 : sProp 𝕄) :
    iprop((P1 ∗ P2 ∗ P3) ∗ (P4 ∗ P5 ∗ P6) ∗ P7) = iprop(P1 ∗ P2 ∗ P3 ∗ P4 ∗ P5 ∗ P6 ∗ P7) := by
  refine BI.equiv_iff.mp ⟨?_, ?_⟩
  · show iprop((P1 ∗ P2 ∗ P3) ∗ (P4 ∗ P5 ∗ P6) ∗ P7) ⊢ iprop(P1 ∗ P2 ∗ P3 ∗ P4 ∗ P5 ∗ P6 ∗ P7)
    iintro ⟨⟨H1, H2, H3⟩, ⟨H4, H5, H6⟩, H7⟩; iframe
  · show iprop(P1 ∗ P2 ∗ P3 ∗ P4 ∗ P5 ∗ P6 ∗ P7) ⊢ iprop((P1 ∗ P2 ∗ P3) ∗ (P4 ∗ P5 ∗ P6) ∗ P7)
    iintro ⟨H1, H2, H3, H4, H5, H6, H7⟩; iframe

theorem scr_eq : scr (F := F) c = allSlots (F := F) c := by
  unfold scr allSlots
  rw [whole_pieces c cc0_scratch0 layI layI_disj layI_all (fun _ => Scalar.ofBits .bf16 0), whole_pieces c cc0_scratch1 layI layI_disj layI_all (fun _ => Scalar.ofBits .bf16 0),
    whole_pieces c cc0_scratch2 gatI gatI_disj gatI_all (fun _ => Scalar.ofBits .bf16 0)]
  rw [bigSep_univ_prod, bigSep_univ_prod, bigSep_univ_prod, bigSep_three, bigSep_three, bigSep_seven]
  rw [bigSep_congr fun j _ => layA_any (F := F) c 0 j 0 rfl, bigSep_congr fun j _ => layA_any (F := F) c 1 j 1 rfl, bigSep_congr fun j _ => layA_any (F := F) c 2 j 2 rfl,
    bigSep_congr fun j _ => layB_any (F := F) c 0 j 3 rfl, bigSep_congr fun j _ => layB_any (F := F) c 1 j 4 rfl, bigSep_congr fun j _ => layB_any (F := F) c 2 j 5 rfl,
    bigSep_congr fun j _ => gat_any (F := F) c j]
  exact regroup7 _ _ _ _ _ _ _

/-! ## The slots by their use -/

/-- Which slot a device fills itself, and which it receives. -/
def useOf : Fin 7 ⊕ Fin 21 → Fin 7 × Fin 4
  | .inl b => (b, nb 0 c)
  | .inr x => (bufOf x, slotR x c)
theorem useOf_bij : Function.Bijective (useOf c) := by
  have hi : Function.Injective (useOf c) := by revert c; decide
  exact (Fintype.bijective_iff_injective_and_card _).mpr ⟨hi, by decide⟩

omit [FloatOps F] in
theorem by_use (Φ : Fin 7 × Fin 4 → sProp 𝕄) :
    bigSep Finset.univ Φ = iprop((bigSep Finset.univ fun b : Fin 7 => Φ (b, nb 0 c)) ∗ bigSep Finset.univ fun x : Fin 21 => Φ (bufOf x, slotR x c)) := by
  rw [bigSep_univ_equiv (Equiv.ofBijective (useOf c) (useOf_bij c)) Φ, BI.bigSep_univ_sum]
  rfl

theorem scr_split : scr (F := F) c ⊢ iprop(Own0 (F := F) c ∗ bigSep Finset.univ fun x : Fin 21 => slotAny (F := F) c (bufOf x) (slotR x c)) := by
  rw [scr_eq]; unfold allSlots Own0
  rw [by_use c, bigSep_seven]

/-! ## The slots at the end -/

variable (V : Fin 7 → Dev nD → S512x256.Idx → Elt F .bf16)

omit [FloatOps F] in
theorem bigSep_21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

omit [FloatOps F] in
theorem at_any (b : Fin 7) (j : Dev nD) (q : PosShare TreeShare) (hq : q = fullShare) : slotAt V c b j q ⊢ slotAny (F := F) c b j := by
  subst hq; unfold slotAt slotAny
  iintro H; iexists (V b j); iexact H

omit [FloatOps F] in
/-- Three shares of an own slot are that slot. -/
theorem own_any (b : Fin 7) (x y : Fin 21) (hb : bufOf x = b) (hb' : bufOf y = b) (hx : slotS x c = nb 0 c) (hy : slotS y c = nb 0 c)
    (hq : qs x = fullShare.left) (hq' : qs y = fullShare.right.left) :
    iprop(slotAt V c (bufOf x) (slotS x c) (qs x) ∗ slotAt V c (bufOf y) (slotS y c) (qs y) ∗ slotAt V c b (nb 0 c) fullShare.right.right)
      ⊢ slotAny (F := F) c b (nb 0 c) := by
  rw [hb, hb', hx, hy, hq, hq']
  exact (slot_join c V b (nb 0 c)).trans (at_any c V b (nb 0 c) fullShare rfl)

omit [FloatOps F] in
/-- The two halves of a slot that was passed on are that slot. -/
theorem fwd_any (x y : Fin 21) (hb : bufOf y = bufOf x) (hx : slotS y c = slotR x c) (hq : qs y = fullShare.left) (hq' : qg x = fullShare.right) :
    iprop(slotAt V c (bufOf y) (slotS y c) (qs y) ∗ slotAt V c (bufOf x) (slotR x c) (qg x)) ⊢ slotAny (F := F) c (bufOf x) (slotR x c) := by
  rw [hb, hx, hq, hq']
  refine BI.Entails.trans ?_ (at_any c V (bufOf x) (slotR x c) fullShare rfl)
  unfold slotAt
  exact (owns_halves (c : Thread nD τ) (bufSlot (bufOf x) (slotR x c)) fullShare (V (bufOf x) (slotR x c))).2

theorem pass_0 : slotS 4 c = slotR 0 c := by revert c; decide
theorem pass_3 : slotS 5 c = slotR 3 c := by revert c; decide
theorem pass_6 : slotS 10 c = slotR 6 c := by revert c; decide
theorem pass_9 : slotS 11 c = slotR 9 c := by revert c; decide
theorem pass_12 : slotS 16 c = slotR 12 c := by revert c; decide
theorem pass_15 : slotS 17 c = slotR 15 c := by revert c; decide

theorem room_back (I : Ins F) :
    iprop(Own1 I c ∗ (bigSep Finset.univ fun x : Fin 21 => slotAt (Vof I) c (bufOf x) (slotS x c) (qs x))
        ∗ bigSep Finset.univ fun x : Fin 21 => slotAt (Vof I) c (bufOf x) (slotR x c) (qg x))
      ⊢ scr (F := F) c := by
  rw [scr_eq]; unfold allSlots Own1
  rw [by_use c, bigSep_seven, bigSep_21, bigSep_21, bigSep_21]
  iintro ⟨⟨Ho0, Ho1, Ho2, Ho3, Ho4, Ho5⟩, ⟨Hd0, Hd1, Hd2, Hd3, Hd4, Hd5, Hd6, Hd7, Hd8, Hd9, Hd10, Hd11, Hd12, Hd13, Hd14, Hd15, Hd16, Hd17, Hd18, Hd19, Hd20⟩, ⟨Hg0, Hg1, Hg2, Hg3, Hg4, Hg5, Hg6, Hg7, Hg8, Hg9, Hg10, Hg11, Hg12, Hg13, Hg14, Hg15, Hg16, Hg17, Hg18, Hg19, Hg20⟩⟩
  isplitl [Ho0 Hd0 Hd2 Ho1 Hd6 Hd8 Ho2 Hd12 Hd14 Ho3 Hd1 Hd3 Ho4 Hd7 Hd9 Ho5 Hd13 Hd15 Hd18 Hd19 Hd20]
  · isplitl [Ho0 Hd0 Hd2]
    · iapply (own_any c (Vof I) 0 0 2 rfl rfl rfl rfl rfl rfl); iframe
    isplitl [Ho1 Hd6 Hd8]
    · iapply (own_any c (Vof I) 1 6 8 rfl rfl rfl rfl rfl rfl); iframe
    isplitl [Ho2 Hd12 Hd14]
    · iapply (own_any c (Vof I) 2 12 14 rfl rfl rfl rfl rfl rfl); iframe
    isplitl [Ho3 Hd1 Hd3]
    · iapply (own_any c (Vof I) 3 1 3 rfl rfl rfl rfl rfl rfl); iframe
    isplitl [Ho4 Hd7 Hd9]
    · iapply (own_any c (Vof I) 4 7 9 rfl rfl rfl rfl rfl rfl); iframe
    isplitl [Ho5 Hd13 Hd15]
    · iapply (own_any c (Vof I) 5 13 15 rfl rfl rfl rfl rfl rfl); iframe
    iapply (own_any c (Vof I) 6 18 19 rfl rfl rfl rfl rfl rfl)
    isplitl [Hd18]; · iexact Hd18
    isplitl [Hd19]; · iexact Hd19
    iexact Hd20
  isplitl [Hd4 Hg0]
  · iapply (fwd_any c (Vof I) 0 4 rfl (pass_0 c) rfl rfl); iframe
  isplitl [Hg1]
  · iapply (at_any c (Vof I) (bufOf 1) (slotR 1 c) (qg 1) rfl); iexact Hg1
  isplitl [Hg2]
  · iapply (at_any c (Vof I) (bufOf 2) (slotR 2 c) (qg 2) rfl); iexact Hg2
  isplitl [Hd5 Hg3]
  · iapply (fwd_any c (Vof I) 3 5 rfl (pass_3 c) rfl rfl); iframe
  isplitl [Hg4]
  · iapply (at_any c (Vof I) (bufOf 4) (slotR 4 c) (qg 4) rfl); iexact Hg4
  isplitl [Hg5]
  · iapply (at_any c (Vof I) (bufOf 5) (slotR 5 c) (qg 5) rfl); iexact Hg5
  isplitl [Hd10 Hg6]
  · iapply (fwd_any c (Vof I) 6 10 rfl (pass_6 c) rfl rfl); iframe
  isplitl [Hg7]
  · iapply (at_any c (Vof I) (bufOf 7) (slotR 7 c) (qg 7) rfl); iexact Hg7
  isplitl [Hg8]
  · iapply (at_any c (Vof I) (bufOf 8) (slotR 8 c) (qg 8) rfl); iexact Hg8
  isplitl [Hd11 Hg9]
  · iapply (fwd_any c (Vof I) 9 11 rfl (pass_9 c) rfl rfl); iframe
  isplitl [Hg10]
  · iapply (at_any c (Vof I) (bufOf 10) (slotR 10 c) (qg 10) rfl); iexact Hg10
  isplitl [Hg11]
  · iapply (at_any c (Vof I) (bufOf 11) (slotR 11 c) (qg 11) rfl); iexact Hg11
  isplitl [Hd16 Hg12]
  · iapply (fwd_any c (Vof I) 12 16 rfl (pass_12 c) rfl rfl); iframe
  isplitl [Hg13]
  · iapply (at_any c (Vof I) (bufOf 13) (slotR 13 c) (qg 13) rfl); iexact Hg13
  isplitl [Hg14]
  · iapply (at_any c (Vof I) (bufOf 14) (slotR 14 c) (qg 14) rfl); iexact Hg14
  isplitl [Hd17 Hg15]
  · iapply (fwd_any c (Vof I) 15 17 rfl (pass_15 c) rfl rfl); iframe
  isplitl [Hg16]
  · iapply (at_any c (Vof I) (bufOf 16) (slotR 16 c) (qg 16) rfl); iexact Hg16
  isplitl [Hg17]
  · iapply (at_any c (Vof I) (bufOf 17) (slotR 17 c) (qg 17) rfl); iexact Hg17
  isplitl [Hg18]
  · iapply (at_any c (Vof I) (bufOf 18) (slotR 18 c) (qg 18) rfl); iexact Hg18
  isplitl [Hg19]
  · iapply (at_any c (Vof I) (bufOf 19) (slotR 19 c) (qg 19) rfl); iexact Hg19
  iapply (at_any c (Vof I) (bufOf 20) (slotR 20 c) (qg 20) rfl); iexact Hg20

/-- What the state holds at the end: the buffers, the counters at zero, and nothing owed. -/
theorem St_end (I : Ins F) (K : Dev nD × Cix → ℕ) :
    iprop(St (Vof I) K c 21 21 21 ∗ Own1 I c)
      ⊢ iprop((∃ W : Waits sig Unit, owes (c : Thread nD τ) 0 W) ∗ scr (F := F) c
        ∗ (bigSep Finset.univ fun x : Fin 21 => semVal (sendCell c x) 0) ∗ bigSep Finset.univ fun x : Fin 21 => semVal (recvCell c x) 0) := by
  unfold St Dn Got
  rw [Ow_end, ← bigSep_tr (fun x => iprop(semVal (sendCell c x) 0 ∗ slotAt (Vof I) c (bufOf x) (slotS x c) (qs x))),
    ← bigSep_tr (fun x => iprop(semVal (recvCell c (ord x)) 0 ∗ slotAt (Vof I) c (bufOf (ord x)) (slotR (ord x) c) (qg (ord x)))),
    ← show (bigSep Finset.univ fun x => iprop(semVal (recvCell c x) 0 ∗ slotAt (Vof I) c (bufOf x) (slotR x c) (qg x)) : sProp 𝕄)
        = bigSep Finset.univ fun x => iprop(semVal (recvCell c (ord x)) 0 ∗ slotAt (Vof I) c (bufOf (ord x)) (slotR (ord x) c) (qg (ord x))) from bigSep_univ_equiv ordE _,
    bigSep_sep', bigSep_sep']
  iintro ⟨⟨-, HO, -, -, ⟨Hz, Hs⟩, -, ⟨Hz', Hs'⟩⟩, Ho⟩
  isplitl [HO]; · iexact HO
  isplitl [Ho Hs Hs']
  · iapply (room_back c I); iframe
  isplitl [Hz]; · iexact Hz
  iexact Hz'

end Cert.Mlp

end
-- ==== Proof.Launch.lean ====
/-
The body's claim as the launch states it: the arrays each device starts from, and what its buffers hold before and after.
-/
module

public import proofs.«01_k».proof.Proof.Room
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The arguments of every device as the memory holds them. -/
def insOf : Ins F where
  x c := m ((c : Thread nD τ).loc main_arg0)
  wi k c := match k with
    | 0 => m ((c : Thread nD τ).loc main_arg1)
    | 1 => m ((c : Thread nD τ).loc main_arg2)
    | 2 => m ((c : Thread nD τ).loc main_arg3)
  wo k c := match k with
    | 0 => m ((c : Thread nD τ).loc main_arg4)
    | 1 => m ((c : Thread nD τ).loc main_arg5)
    | 2 => m ((c : Thread nD τ).loc main_arg6)

/-- The contents of the slots. -/
abbrev Vm : Fin 7 → Dev nD → S512x256.Idx → Elt F .bf16 := Vof (insOf m)

/-- What a device starts from beside its buffers, under the names `K` of the cells' invariants, the credit apart. -/
def linear (c : Dev nD) : sProp 𝕄 :=
  iprop((atPos ER (barCell c) 0 ∅ 0 ∗ dutyTok ER (barCell (nb 3 c)) 0 1 ∗ dutyTok ER (barCell (nb 2 c)) 0 2 ∗ dutyTok ER (barCell (nb 1 c)) 0 3)
    ∗ (bigSep Finset.univ fun x : Fin 21 => iprop(dutyTok ER (sendCell c x) 0 0 ∗ dutyTok ER (recvCell (tgt x c) x) 0 0 ∗ atPos ER (sendCell c x) 0 ∅ 0))
    ∗ bigSep Finset.univ fun x : Fin 21 => atPos ER (recvCell c x) 0 ∅ 0)

/-- The credit of a device at launch. -/
def credit (c : Dev nD) : sProp 𝕄 :=
  iprop(cred (tallyAt (barCell c) () 3) ∗ bigSep Finset.univ fun x : Fin 21 => cred (tallyAt (recvCell c x) () N))

def start (c : Dev nD) : sProp 𝕄 := iprop((∃ K, records (Vm m) K ∗ linear (F := F) c) ∗ credit (F := F) c ∗ levAts L lv)
def Φ₀ (c : Dev nD) : sProp 𝕄 := iprop(start m c ∗ scr (F := F) c)
/-- After the body: the buffers at some contents and every semaphore at zero. -/
def Φ₁ (c : Dev nD) : sProp 𝕄 :=
  iprop(scr (F := F) c ∗ ((bigSep Finset.univ fun x : Fin 21 => semVal (sendCell c x) 0) ∗ bigSep Finset.univ fun x : Fin 21 => semVal (recvCell c x) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).wi 0 c
    | ⟨2, _⟩ => (insOf m).wo 0 c
    | ⟨3, _⟩ => (insOf m).wi 1 c
    | ⟨4, _⟩ => (insOf m).wo 1 c
    | ⟨5, _⟩ => (insOf m).wi 2 c
    | ⟨6, _⟩ => (insOf m).wo 2 c
    | ⟨7, _⟩ => pile (outR (insOf m) c)
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev t₀ : Fin cfg0.N := t0_0

theorem before_0 (c : Dev nD) (d) : (dats m ρ 0 c).before (0 : Fin 8) t₀ d = (insOf m).x c := by
  unfold Dat.before; rw [if_pos (fetch0_0 _)]
  show (win0_0.blk t₀).view.read (Elt F) (m ((c : Thread nD τ).loc main_arg0)) = m ((c : Thread nD τ).loc main_arg0)
  funext i
  show m ((c : Thread nD τ).loc main_arg0) _ = m ((c : Thread nD τ).loc main_arg0) _
  exact congrArg (m ((c : Thread nD τ).loc main_arg0)) (funext fun a => Fin.ext (by show 0 * S512x256.size a + 1 * (i a).val = (i a).val; omega))
theorem before_1 (c : Dev nD) (d) : (dats m ρ 0 c).before (1 : Fin 8) t₀ d = (insOf m).wi 0 c := by
  unfold Dat.before; rw [if_pos (fetch0_1 _)]
  show (win0_1.blk t₀).view.read (Elt F) (m ((c : Thread nD τ).loc main_arg1)) = m ((c : Thread nD τ).loc main_arg1)
  funext i
  show m ((c : Thread nD τ).loc main_arg1) _ = m ((c : Thread nD τ).loc main_arg1) _
  exact congrArg (m ((c : Thread nD τ).loc main_arg1)) (funext fun a => Fin.ext (by show 0 * S256x512.size a + 1 * (i a).val = (i a).val; omega))
theorem before_2 (c : Dev nD) (d) : (dats m ρ 0 c).before (2 : Fin 8) t₀ d = (insOf m).wo 0 c := by
  unfold Dat.before; rw [if_pos (fetch0_2 _)]
  show (win0_2.blk t₀).view.read (Elt F) (m ((c : Thread nD τ).loc main_arg4)) = m ((c : Thread nD τ).loc main_arg4)
  funext i
  show m ((c : Thread nD τ).loc main_arg4) _ = m ((c : Thread nD τ).loc main_arg4) _
  exact congrArg (m ((c : Thread nD τ).loc main_arg4)) (funext fun a => Fin.ext (by show 0 * S512x256.size a + 1 * (i a).val = (i a).val; omega))
theorem before_3 (c : Dev nD) (d) : (dats m ρ 0 c).before (3 : Fin 8) t₀ d = (insOf m).wi 1 c := by
  unfold Dat.before; rw [if_pos (fetch0_3 _)]
  show (win0_3.blk t₀).view.read (Elt F) (m ((c : Thread nD τ).loc main_arg2)) = m ((c : Thread nD τ).loc main_arg2)
  funext i
  show m ((c : Thread nD τ).loc main_arg2) _ = m ((c : Thread nD τ).loc main_arg2) _
  exact congrArg (m ((c : Thread nD τ).loc main_arg2)) (funext fun a => Fin.ext (by show 0 * S256x512.size a + 1 * (i a).val = (i a).val; omega))
theorem before_4 (c : Dev nD) (d) : (dats m ρ 0 c).before (4 : Fin 8) t₀ d = (insOf m).wo 1 c := by
  unfold Dat.before; rw [if_pos (fetch0_4 _)]
  show (win0_4.blk t₀).view.read (Elt F) (m ((c : Thread nD τ).loc main_arg5)) = m ((c : Thread nD τ).loc main_arg5)
  funext i
  show m ((c : Thread nD τ).loc main_arg5) _ = m ((c : Thread nD τ).loc main_arg5) _
  exact congrArg (m ((c : Thread nD τ).loc main_arg5)) (funext fun a => Fin.ext (by show 0 * S512x256.size a + 1 * (i a).val = (i a).val; omega))
theorem before_5 (c : Dev nD) (d) : (dats m ρ 0 c).before (5 : Fin 8) t₀ d = (insOf m).wi 2 c := by
  unfold Dat.before; rw [if_pos (fetch0_5 _)]
  show (win0_5.blk t₀).view.read (Elt F) (m ((c : Thread nD τ).loc main_arg3)) = m ((c : Thread nD τ).loc main_arg3)
  funext i
  show m ((c : Thread nD τ).loc main_arg3) _ = m ((c : Thread nD τ).loc main_arg3) _
  exact congrArg (m ((c : Thread nD τ).loc main_arg3)) (funext fun a => Fin.ext (by show 0 * S256x512.size a + 1 * (i a).val = (i a).val; omega))
theorem before_6 (c : Dev nD) (d) : (dats m ρ 0 c).before (6 : Fin 8) t₀ d = (insOf m).wo 2 c := by
  unfold Dat.before; rw [if_pos (fetch0_6 _)]
  show (win0_6.blk t₀).view.read (Elt F) (m ((c : Thread nD τ).loc main_arg6)) = m ((c : Thread nD τ).loc main_arg6)
  funext i
  show m ((c : Thread nD τ).loc main_arg6) _ = m ((c : Thread nD τ).loc main_arg6) _
  exact congrArg (m ((c : Thread nD τ).loc main_arg6)) (funext fun a => Fin.ext (by show 0 * S512x256.size a + 1 * (i a).val = (i a).val; omega))

omit [FloatOps F] in
theorem owns_whole_eq (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))
def bodyPost (c : Dev nD) : sProp 𝕄 :=
  iprop(Φ₁ (F := F) c ∗ (dats m ρ 0 c).owesAt () t₀.succ
    ∗ stg c cc0_stg0_0 ((insOf m).x c)
    ∗ stg c cc0_stg1_0 ((insOf m).wi 0 c)
    ∗ stg c cc0_stg2_0 ((insOf m).wo 0 c)
    ∗ stg c cc0_stg3_0 ((insOf m).wi 1 c)
    ∗ stg c cc0_stg4_0 ((insOf m).wo 1 c)
    ∗ stg c cc0_stg5_0 ((insOf m).wi 2 c)
    ∗ stg c cc0_stg6_0 ((insOf m).wo 2 c)
    ∗ stg c cc0_stg7_0 (pile (outR (insOf m) c)))

theorem stg_owns (c : Dev nD) (b : Ref sig .tc) (X : b.ty.Contents (Elt F)) :
    (stg c b X : sProp 𝕄) = owns (c : Thread nD τ) (Memref.whole b) fullShare X := (owns_whole_eq c b X).symm

/-- What the launch gives is what the body starts from. -/
theorem pre_intro (c : Dev nD) : bodyPre m ρ c ⊢ iprop(∃ K, Pre (Vm m) K c ∗ Own0 (F := F) c ∗ Wins (insOf m) c ∗ OutAt (insOf m) c ∅) := by
  unfold bodyPre
  simp only [before_0, before_1, before_2, before_3, before_4, before_5, before_6, stg_owns]
  unfold Φ₀ start linear credit Pre Wins OutAt Base Awt
  simp only [bigSep_sep']
  iintro ⟨⟨⟨⟨%K, #HR, ⟨Ha, Ht3, Ht2, Ht1⟩, Hs, Hr⟩, ⟨Hc, Hcr⟩, #Hl⟩, Hscr⟩, ⟨%W, -, Ho⟩, ⟨%d0, H0⟩, ⟨%d1, H1⟩, ⟨%d2, H2⟩, ⟨%d3, H3⟩, ⟨%d4, H4⟩, ⟨%d5, H5⟩, ⟨%d6, H6⟩, ⟨%d7, H7⟩⟩
  ihave Hsc := (scr_split (F := F) c) $$ Hscr
  icases Hsc with ⟨Hown, Hslots⟩
  iexists K
  isplitl [Ha Ht3 Ht2 Ht1 Hs Hr Hc Hcr Ho Hslots]
  · isplitr
    · isplitr; · iexact HR
      iexact Hl
    isplitl [Ho]; · iexists W; iexact Ho
    isplitl [Ha Ht3 Ht2 Ht1 Hc]; · iframe
    isplitl [Hslots]; · iexact Hslots
    isplitl [Hs]; · iexact Hs
    isplitl [Hcr]; · iexact Hcr
    iexact Hr
  isplitl [Hown]; · iexact Hown
  isplitl [H0 H1 H2 H3 H4 H5 H6]; · iframe
  iexists ((dats m ρ 0 c).before (7 : Fin 8) t₀ d7)
  isplitr; · ipureintro; exact filled_none _ _
  iexact H7

/-- What the body ends with is what the launch takes back. -/
theorem post_intro (c : Dev nD) (K : Dev nD × Cix → ℕ) :
    iprop(St (Vm m) K c 21 21 21 ∗ semVal (barCell c) 0 ∗ Own1 (insOf m) c ∗ Wins (insOf m) c ∗ owns (c : Thread nD τ) (Memref.whole cc0_stg7_0) fullShare (pile (outR (insOf m) c)))
      ⊢ bodyPost m ρ c := by
  unfold bodyPost Φ₁ Wins
  simp only [stg_owns]
  iintro ⟨HS, Hz, Hown, ⟨H0, H1, H2, H3, H4, H5, H6⟩, H7⟩
  ihave He := (St_end (F := F) c (insOf m) K) $$ [HS Hown]
  · isplitl [HS] <;> iassumption
  icases He with ⟨⟨%W, Ho⟩, Hscr, Hs, Hr⟩
  isplitl [Hz Hscr Hs Hr]; · iframe
  isplitl [Ho]
  · unfold Dat.owesAt Pipeline.owesWithin
    iexists W
    isplitr; · ipureintro; exact fun _ _ => Or.inl trivial
    iexact Ho
  iframe

set_option maxRecDepth 8000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) aM (Memref.isWhole_whole _) bM (Memref.isWhole_whole _) gM (Memref.isWhole_whole _) cc0_scratch3 cc0_scratch4 cc0_scratch5 cc0_scratch6) (fun _ => bodyPost m ρ c)
  iintro H
  ihave H' := (pre_intro m ρ c) $$ H
  icases H' with ⟨%K, H'⟩
  iapply (body (F := F) (insOf m) K c (Q := fun _ => bodyPost m ρ c)) $$ H'
  iintro H
  iapply (post_intro m ρ c K)
  iexact H

end Cert.Mlp

end
-- ==== Proof.Run.lean ====
/-
The launch: the cells' invariants and the tokens dealt among the devices, and the run of the program.
-/
module

public import proofs.«01_k».proof.Proof.Launch
public import Idealize.ShloMosaic.Lib.Quiescent
public import Idealize.ShloMosaic.Lib.Pipeline.CollectiveSegs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The semaphores of the kernel that count transfers. -/
abbrev osem : Bool × Fin 21 → SemLoc sig := fun k => csem (some k)
set_option maxRecDepth 8000 in
theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h
  rcases k with _ | ⟨_ | _, x⟩ <;> rcases k' with _ | ⟨_ | _, x'⟩ <;> simp only [csem] at h
  · rfl
  · exact nomatch h
  · exact nomatch h
  · exact nomatch h
  · have h' := congrArg dec (SemLoc.dma.inj h); rw [dec_sSem, dec_sSem] at h'; exact h'
  · have h' := congrArg dec (SemLoc.dma.inj h); rw [dec_sSem, dec_rSem] at h'; exact h'
  · exact nomatch h
  · have h' := congrArg dec (SemLoc.dma.inj h); rw [dec_rSem, dec_sSem] at h'; exact h'
  · have h' := congrArg dec (SemLoc.dma.inj h); rw [dec_rSem, dec_rSem] at h'; exact h'

theorem cell_inj {a b : Dev nD} {s s' : SemLoc sig} (h : (((a : Thread nD τ), s) : GSem nD τ sig) = ((b : Thread nD τ), s')) : a = b ∧ s = s' :=
  ⟨Fin.ext (congrArg (fun g : GSem nD τ sig => g.1.1.val) h), congrArg Prod.snd h⟩

theorem kcell_injective : Function.Injective (kcell : Dev nD × Cix → GSem nD τ sig) := by
  rintro ⟨c, k⟩ ⟨c', k'⟩ h
  exact Prod.ext (cell_inj h).1 (csem_injective (cell_inj h).2)
def allCells : Finset (GSem nD τ sig) := Finset.univ.map ⟨kcell, kcell_injective⟩

/-- A device's own duties: the three of its barrier, one for each of the 42 others. -/
abbrev Tix : Type := Fin 3 ⊕ Bool × Fin 21
def tokIx : Tix → Cix × Fin 4
  | .inl r => (none, r.succ)
  | .inr k => (some k, 0)
theorem tokIx_injective : Function.Injective tokIx := by
  rintro (r | k) (r' | k') h <;> simp only [tokIx, Prod.mk.injEq] at h
  · rw [Fin.succ_injective _ h.2]
  · exact nomatch h.1
  · exact nomatch h.1
  · rw [Option.some.inj h.1]
abbrev tokOf (cj : Dev nD × Tix) : GSem nD τ sig × ℕ × Fin 4 := (kcell (cj.1, (tokIx cj.2).1), 0, (tokIx cj.2).2)
theorem tokOf_injective : Function.Injective (tokOf : Dev nD × Tix → GSem nD τ sig × ℕ × Fin 4) := by
  rintro ⟨c, j⟩ ⟨c', j'⟩ h
  have h1 := kcell_injective (congrArg Prod.fst h)
  have h2 : (tokIx j).2 = (tokIx j').2 := congrArg (fun x : GSem nD τ sig × ℕ × Fin 4 => x.2.2) h
  have hc : c = c' := congrArg Prod.fst h1
  have hk : (tokIx j).1 = (tokIx j').1 := congrArg Prod.snd h1
  exact Prod.ext hc (tokIx_injective (Prod.ext hk h2))
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop((dutyTok ER (barCell c) 0 1 ∗ dutyTok ER (barCell c) 0 2 ∗ dutyTok ER (barCell c) 0 3)
    ∗ (bigSep Finset.univ fun x : Fin 21 => dutyTok ER (sendCell c x) 0 0) ∗ bigSep Finset.univ fun x : Fin 21 => dutyTok ER (recvCell c x) 0 0)

def G (c : Dev nD) : sProp 𝕄 :=
  iprop((bigSep Finset.univ fun k : Cix => roundState ER (Rd (Vm m)) (kcell (c, k)) 0)
    ∗ (bigSep Finset.univ fun k : Cix => iprop(atPos ER (kcell (c, k)) 0 ∅ 0 ∗ reached ER (kcell (c, k)) 0)) ∗ toks (F := F) c)

def G' (c : Dev nD) : sProp 𝕄 := iprop(∃ K, records (Vm m) K ∗ linear (F := F) c)

omit [FloatOps F] in
theorem bigSep_bool (Φ : Bool → sProp 𝕄) : bigSep Finset.univ Φ = iprop(Φ false ∗ Φ true) := bigSep_univ_eq_bigSepL [false, true] (by decide) (by decide) Φ

omit [FloatOps F] in
/-- Over the transfers' semaphores of a device: first those counted at the sender. -/
theorem bigSep_own (Φ : Bool × Fin 21 → sProp 𝕄) :
    bigSep Finset.univ Φ = iprop((bigSep Finset.univ fun x => Φ (false, x)) ∗ bigSep Finset.univ fun x => Φ (true, x)) := by
  rw [bigSep_univ_prod, bigSep_bool]
omit [FloatOps F] in
theorem bigSep_opt (Φ : Cix → sProp 𝕄) : bigSep Finset.univ Φ = iprop(Φ none ∗ bigSep Finset.univ fun k => Φ (some k)) := by
  rw [bigSep_univ_equiv (Equiv.optionEquivSumPUnit.{0, 0} (Bool × Fin 21)).symm Φ, BI.bigSep_univ_sum, BI.bigSep_univ_of_subsingleton PUnit.unit]
  refine BI.equiv_iff.mp ⟨?_, ?_⟩
  · show iprop((bigSep Finset.univ fun k => Φ (some k)) ∗ Φ none) ⊢ iprop(Φ none ∗ bigSep Finset.univ fun k => Φ (some k))
    iintro ⟨H, H'⟩; iframe
  · show iprop(Φ none ∗ bigSep Finset.univ fun k => Φ (some k)) ⊢ iprop((bigSep Finset.univ fun k => Φ (some k)) ∗ Φ none)
    iintro ⟨H, H'⟩; iframe

omit [FloatOps F] in
theorem toks_eq (c : Dev nD) :
    (bigSep Finset.univ fun j : Tix => (dutyTok ER (tokOf (c, j)).1 (tokOf (c, j)).2.1 (tokOf (c, j)).2.2 : sProp 𝕄)) = toks (F := F) c := by
  rw [BI.bigSep_univ_sum, bigSep_own, bigSep_three]; rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => toks_eq c
  iintro HX
  imod (Rounds.fund ER (Rd (Vm m)) allCells allToks) $$ HX with ⟨Hst, Hr, Hat, Htok⟩
  imodintro
  ihave Hst' := (Entails.of_eq (hX fun g => roundState ER (Rd (Vm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun x : Fin 21 => semVal (sendCell c x) 0) ∗ bigSep Finset.univ fun x : Fin 21 => semVal (recvCell c x) 0) := by
  unfold Pipeline.ownSems0; rw [bigSep_own]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) := by
  rw [unscopedSems0_eq, bigSep_opt]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (Vm m)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Cix => semVal (kcell (c, k)) 0) ∗ bigSep Finset.univ fun k : Cix => roundState ER (Rd (Vm m)) (kcell (c, k)) 0)
      ⊢ (|={Set.univ}=> bigSep Finset.univ fun k => iprop(∃ κ : ℕ, cellInv ER (Rd (Vm m)) κ (kcell (c, k))) : sProp 𝕄) from by
        rw [← bigSep_sep']
        exact (bigSep_mono fun k _ => (Rounds.body_intro ER (Rd (Vm m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- The device `r` places on. -/
def rot (r : Fin 4) : Dev nD ≃ Dev nD := ⟨fun c => nb r c, fun c => nb (4 - r) c, by revert r; decide, by revert r; decide⟩

/-- The tokens a device pays with. -/
def payToks (c : Dev nD) : sProp 𝕄 :=
  iprop((dutyTok ER (barCell (nb 3 c)) 0 1 ∗ dutyTok ER (barCell (nb 2 c)) 0 2 ∗ dutyTok ER (barCell (nb 1 c)) 0 3)
    ∗ (bigSep Finset.univ fun x : Fin 21 => dutyTok ER (sendCell c x) 0 0) ∗ bigSep Finset.univ fun x : Fin 21 => dutyTok ER (recvCell (tgt x c) x) 0 0)

omit [FloatOps F] in
theorem toks_turn (r : Fin 4) (d : Fin 4) :
    (bigSep Finset.univ fun c : Dev nD => (dutyTok ER (barCell c) 0 d : sProp 𝕄)) = bigSep Finset.univ fun c : Dev nD => dutyTok ER (barCell (nb r c)) 0 d :=
  bigSep_univ_equiv (rot r) fun c : Dev nD => (dutyTok ER (barCell c) 0 d : sProp 𝕄)
omit [FloatOps F] in
theorem toks_hop :
    (bigSep Finset.univ fun c : Dev nD => bigSep Finset.univ fun x : Fin 21 => (dutyTok ER (recvCell c x) 0 0 : sProp 𝕄))
      = bigSep Finset.univ fun c : Dev nD => bigSep Finset.univ fun x : Fin 21 => dutyTok ER (recvCell (tgt x c) x) 0 0 := by
  rw [BI.bigSep_univ_comm (fun (c : Dev nD) (x : Fin 21) => (dutyTok ER (recvCell c x) 0 0 : sProp 𝕄)),
    BI.bigSep_univ_comm (fun (c : Dev nD) (x : Fin 21) => (dutyTok ER (recvCell (tgt x c) x) 0 0 : sProp 𝕄))]
  exact bigSep_congr fun x _ => bigSep_univ_equiv (hop x) fun c : Dev nD => (dutyTok ER (recvCell c x) 0 0 : sProp 𝕄)

omit [FloatOps F] in
theorem toks_around : (bigSep Finset.univ fun c : Dev nD => toks (F := F) c) = bigSep Finset.univ fun c : Dev nD => payToks (F := F) c := by
  unfold toks payToks
  simp only [bigSep_sep']
  rw [toks_hop, toks_turn 3 1, toks_turn 2 2, toks_turn 1 3]

omit [FloatOps F] in
theorem linear_intro (c : Dev nD) :
    iprop((bigSep Finset.univ fun k : Cix => atPos ER (kcell (c, k)) 0 ∅ 0) ∗ payToks (F := F) c) ⊢ linear (F := F) c := by
  rw [bigSep_opt, bigSep_own]
  unfold payToks linear
  simp only [bigSep_sep']
  iintro ⟨⟨Hb, Hs, Hr⟩, ⟨H1, H2, H3⟩, Ht, Hu⟩
  isplitl [Hb H1 H2 H3]
  · isplitl [Hb]; · iexact Hb
    iframe
  isplitl [Ht Hu Hs]
  · isplitl [Ht]; · iexact Ht
    isplitl [Hu]; · iexact Hu
    iexact Hs
  iexact Hr

omit [FloatOps F] in
theorem with_records {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  BI.bigSep_with_persistent fun c _ => h c

theorem ghost_intro (K : Dev nD × Cix → ℕ) (c : Dev nD) :
    iprop(records (Vm m) K ∗ (bigSep Finset.univ fun k : Cix => atPos ER (kcell (c, k)) 0 ∅ 0) ∗ payToks (F := F) c) ⊢ G' m c := by
  unfold G'
  iintro ⟨HR, H⟩
  iexists K
  isplitl [HR]; · iexact HR
  iapply (linear_intro (F := F) c); iexact H

theorem regroup :
    (bigSep Finset.univ fun c : Dev nD => iprop((bigSep Finset.univ fun k => iprop(∃ κ : ℕ, cellInv ER (Rd (Vm m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Cix => iprop(∃ κ : ℕ, cellInv ER (Rd (Vm m)) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄)), toks_around]
  iintro ⟨HI, ⟨Hat, #HR⟩, Htok⟩
  ihave HK := (BI.bigSep_exists_pi Finset.univ (fun (ck : Dev nD × Cix) (κ : ℕ) => (cellInv ER (Rd (Vm m)) κ (kcell ck) : sProp 𝕄))) $$ HI
  icases HK with ⟨%K, #HI⟩
  iapply (with_records (R := records (Vm m) K) fun c => ghost_intro m K c)
  isplitr
  · unfold records; isplitl; · iexact HI
    iexact HR
  · iapply (Entails.of_eq (bigSep_sep' Finset.univ (fun c : Dev nD => bigSep Finset.univ fun k : Cix => (atPos ER (kcell (c, k)) 0 ∅ 0 : sProp 𝕄)) (payToks (F := F))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem sm_ne (x : Fin 21) : (SemLoc.dma (rSem x) : SemLoc sig) ≠ .reg barS := fun h => nomatch h
omit [FloatOps F] in
theorem bar_iff {a b : Dev nD} : Iff (barCell a = barCell b) (a = b) := ⟨fun h => (cell_inj h).1, fun h => h ▸ rfl⟩
omit [FloatOps F] in
theorem recv_iff {a b : Dev nD} {x y : Fin 21} : Iff (recvCell a x = recvCell b y) (a = b ∧ x = y) :=
  ⟨fun h => ⟨(cell_inj h).1, by
      have h' := congrArg dec (SemLoc.dma.inj (cell_inj h).2); rw [dec_rSem, dec_rSem] at h'
      exact congrArg Prod.snd (Option.some.inj h')⟩, fun h => by rw [h.1, h.2]⟩

omit [FloatOps F] in
theorem bt_bar (d c : Dev nD) : bt d (barCell c) () = if d = c then 1 else 0 := by
  unfold bt; rw [tallyAt_apply]
  exact if_congr ⟨fun h => (bar_iff.mp h.1).symm, fun h => ⟨by rw [h], rfl⟩⟩ rfl rfl
omit [FloatOps F] in
theorem bt_recv (d c : Dev nD) (x : Fin 21) : bt d (recvCell c x) () = 0 := by
  unfold bt; rw [tallyAt_apply, if_neg fun h => sm_ne x (cell_inj h.1).2]
omit [FloatOps F] in
theorem Ow_apply (d : Dev nD) (g : GSem nD τ sig) : Ow d 0 g () = ∑ i ∈ Finset.Ico 0 21, (if g = recvCell (tgt (tr i) d) (tr i) then N else 0) := by
  unfold Ow; rw [Finset.sum_apply, Finsupp.finset_sum_apply]
  refine Finset.sum_congr rfl fun i _ => ?_
  rw [tallyAt_apply]
  exact if_congr ⟨fun h => h.1, fun h => ⟨h, rfl⟩⟩ rfl rfl
omit [FloatOps F] in
theorem Ow_bar (d c : Dev nD) : Ow d 0 (barCell c) () = 0 := by
  rw [Ow_apply]
  exact Finset.sum_eq_zero fun i _ => if_neg fun h => sm_ne (tr i) (cell_inj h).2.symm
omit [FloatOps F] in
theorem Ow_recv (d c : Dev nD) (x : Fin 21) : Ow d 0 (recvCell c x) () = if d = org x c then N else 0 := by
  rw [Ow_apply, Finset.sum_eq_single x.val]
  · rw [tr_of_lt x.isLt]
    refine if_congr ⟨fun h => ?_, fun h => ?_⟩ rfl rfl
    · have := (recv_iff.mp h).1; rw [this]; exact (org_tgt x d).symm
    · rw [h]; exact (recv_iff.mpr ⟨tgt_org x c, rfl⟩).symm
  · intro i hi hne
    refine if_neg fun h => hne ?_
    have := (recv_iff.mp h).2
    rw [this, tr_of_lt (Finset.mem_Ico.mp hi).2]
  · intro h; exact absurd (Finset.mem_Ico.mpr ⟨Nat.zero_le _, x.isLt⟩) h

omit [FloatOps F] in
theorem owed (d : Dev nD) (g : GSem nD τ sig) :
    O₀ d g () = Ow d 0 g () + bt ((d : Fin 4) + 2) g () + bt ((d : Fin 4) + 1) g () + bt ((d : Fin 4) + 3) g () := by
  unfold O₀ Ob Oa
  rw [Pi.add_apply, Finsupp.add_apply, Pi.add_apply, Finsupp.add_apply, Pi.add_apply, Finsupp.add_apply]
omit [FloatOps F] in
theorem three_at (c : Dev nD) :
    (∑ d : Dev nD, ((0 + (if ((d : Fin 4) + 2 : Fin 4) = (c : Fin 4) then 1 else 0)) + (if ((d : Fin 4) + 1 : Fin 4) = (c : Fin 4) then 1 else 0) + (if ((d : Fin 4) + 3 : Fin 4) = (c : Fin 4) then 1 else 0))) = 3 := by
  revert c; decide

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  refine (Finset.sum_congr rfl fun d _ => ?_).trans (three_at c)
  rw [owed, Ow_bar, bt_bar, bt_bar, bt_bar]
omit [FloatOps F] in
theorem launch_recv (c : Dev nD) (x : Fin 21) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same,
    Finset.sum_congr rfl fun d _ => show O₀ d (recvCell c x) () = if d = org x c then N else 0 by
      rw [owed, Ow_recv, bt_recv, bt_recv, bt_recv]; rfl,
    Finset.sum_ite_eq' Finset.univ (org x c) fun _ => N, if_pos (Finset.mem_univ _)]

/-- The semaphores that count arrivals. -/
def recvSems : Finset (SemLoc sig) := Finset.univ.map ⟨fun x : Fin 21 => (SemLoc.dma (rSem x) : SemLoc sig), fun x y h => by
  have h' := congrArg dec (SemLoc.dma.inj h); rw [dec_rSem, dec_rSem] at h'; exact congrArg Prod.snd (Option.some.inj h')⟩
theorem recvSems_sub : recvSems ⊆ Finset.univ.erase (SemLoc.reg barS) := fun s hs => by
  obtain ⟨x, -, rfl⟩ := Finset.mem_map.mp hs
  exact Finset.mem_erase.mpr ⟨sm_ne x, Finset.mem_univ _⟩

omit [FloatOps F] in
theorem creds (c : Dev nD) : (Pipeline.launchCred O₀ c : sProp 𝕄) ⊢ credit (F := F) c := by
  unfold Pipeline.launchCred credit
  rw [bigSep_univ_at _ (SemLoc.reg barS), launch_bar]
  refine sep_mono_right ((bigSep_subset recvSems_sub).trans ?_)
  unfold recvSems
  rw [bigSep_map]
  exact Entails.of_eq (bigSep_congr fun x _ => congrArg cred (launch_recv c x))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with zero counters every weakly fair execution of the program terminates, each device's arrays hold
    what the proof data compute and every semaphore counter is zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end
-- ==== Proof.Final.lean ====
/-
What the arrays hold when the program has ended, and that every program leaves its arguments and its counters as they were.
-/
module

public import proofs.«01_k».proof.Proof.Run
public import proofs.«01_k».proof.Proof.Gen.ReferenceIdeal.Run
public import proofs.«01_k».proof.Proof.Gen.Kernel
public import proofs.«01_k».proof.Defs
public import Idealize.ShloMosaic.Lib.Quiescent

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The output array holds the blocks of all devices. -/
theorem final_out (c : Dev nD) : finalA m ρ c (7 : Fin 8) = pile (outR (insOf m) c) := by
  show (dats m ρ 0 c).arrAt (7 : Fin 8) (t₀.val + 1) = _
  rw [Pipeline.Dat.arrAt_succ, if_pos (flush0_7 _)]
  funext i
  have hi : (win0_7.blk t₀).view.emb i = i := funext fun a => Fin.ext (by show 0 * S2048x256.size a + 1 * (i a).val = (i a).val; omega)
  exact (congrArg _ hi.symm).trans (View.write_emb_of_mem _ _ (Finset.mem_univ i))

/-- What the program leaves on every device: its output, its arguments, its counters. -/
theorem run_post : θ_run defs (onTc (τ := τ) (main (F := F))) ⟨m, fun _ => 0, ρ⟩ (fun r =>
    (∀ c : Dev nD, r.2.mem ((c : Thread nD τ).loc main_v1) = pile (outR (insOf m) c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0) :=
  (θ_run defs _ _).mono (fun r h => ⟨fun c =>
    ⟨(h.1 c (7 : Fin 8)).trans (final_out m ρ c),
     (h.1 c (0 : Fin 8)).trans ((dats m ρ 0 c).arrAt_in (0 : Fin 8) rfl _),
     (h.1 c (1 : Fin 8)).trans ((dats m ρ 0 c).arrAt_in (1 : Fin 8) rfl _),
     (h.1 c (3 : Fin 8)).trans ((dats m ρ 0 c).arrAt_in (3 : Fin 8) rfl _),
     (h.1 c (5 : Fin 8)).trans ((dats m ρ 0 c).arrAt_in (5 : Fin 8) rfl _),
     (h.1 c (2 : Fin 8)).trans ((dats m ρ 0 c).arrAt_in (2 : Fin 8) rfl _),
     (h.1 c (4 : Fin 8)).trans ((dats m ρ 0 c).arrAt_in (4 : Fin 8) rfl _),
     (h.1 c (6 : Fin 8)).trans ((dats m ρ 0 c).arrAt_in (6 : Fin 8) rfl _)⟩, h.2⟩) (run_main m ρ)

theorem frame_kernelIdeal : Cert.quiescent_KernelIdeal := fun m ρ _ =>
  (θ_run Cert.KernelIdeal.defs _ _).mono (fun _ h => ⟨fun c => (h.1 c).2, h.2⟩) (run_post (F := Ideal) m ρ)

/-- The two programs have one body. -/
theorem body_same : @Cert.Kernel.defs₀ F _ _ = @Cert.KernelIdeal.defs₀ F _ _ := by
  unfold Cert.Kernel.defs₀ Cert.KernelIdeal.defs₀
  refine congrArg Defs.onTc (funext fun l => ?_)
  match l with
  | ⟨0, _⟩ =>
    funext x
    obtain ⟨t, s⟩ := x
    rfl

theorem defs_same : @Cert.Kernel.defs F _ _ = @Cert.KernelIdeal.defs F _ _ := by
  unfold Cert.Kernel.defs Cert.KernelIdeal.defs
  exact congrArg (Pipeline.defs _) body_same

theorem frame_kernel : Cert.quiescent_Kernel := by
  intro m ρ _
  have h := (θ_run Cert.KernelIdeal.defs _ _).mono (fun _ h => (⟨fun c => (h.1 c).2, h.2⟩ : _ ∧ _)) (run_post (F := Bits) m ρ)
  rw [← defs_same] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mlp

end
-- ==== Proof.Value.lean ====
/-
The values: over the extended reals the blocks the devices compute are the rows of the plain three-layer product.
-/
module

public import proofs.«01_k».proof.Proof.Final
public import Idealize.ShloMosaic.Lib.MatmulPlain
public import Idealize.ShloMosaic.Lib.StackMember
public import Idealize.ShloMosaic.Lib.Pipeline.Value
public import Idealize.ShloMosaic.Lib.IdealHost

@[expose] public section

noncomputable section

namespace Cert.Mlp

open Cert.KernelIdeal Cert.KernelIdeal.Gen
open Idealize.ShloMosaic
open Idealize.ShloMosaic.TcCoe
open Idealize.ShloMosaic.ValueIdx
open Idealize.SL.Sem

/-! ## One chunk -/

/-- A matrix over the extended reals. -/
abbrev Mat (m n : ℕ) : Type := (⟨2, ![m, n]⟩ : Shape).Idx → EReal

/-- What hidden unit `h` adds to entry `(r, c)`: its activation times its output weight. -/
def unit {M H : ℕ} (x : Mat M 256) (wi : Mat 256 H) (wo : Mat H 256) (r : Fin M) (c : Fin 256) (h : Fin H) : EReal :=
  max (∑ k : Fin 256, x (ix2 r k) * wi (ix2 k h)) 0 * wo (ix2 h c)

/-- A layer: all its hidden units together. -/
def lay {M H : ℕ} (x : Mat M 256) (wi : Mat 256 H) (wo : Mat H 256) : Mat M 256 := fun i => ∑ h : Fin H, unit x wi wo (i 0) (i 1) h

theorem half_top (a b : FVec Ideal S256x256 .bf16) (k t : Fin 256) :
    extractStridedSlice S256x256 ![0, 0] (half (F := Ideal) a b) slices_S512x256_o0_0_S256x256 (ix2 k t) = a (ix2 k t) := by
  rw [extractStridedSlice_apply ![0, 0] _ _ (ix2 k t) (ix2 (⟨k.val, by omega⟩ : Fin 512) t) (fun a => by fin_cases a <;> simp <;> rfl)]
  unfold half
  rw [dif_pos (show k.val < 256 from k.isLt)]
  refine congrArg a (funext fun b => ?_)
  fin_cases b <;> rfl

theorem half_bot (a b : FVec Ideal S256x256 .bf16) (k t : Fin 256) :
    extractStridedSlice S256x256 ![256, 0] (half (F := Ideal) a b) slices_S512x256_o256_0_S256x256 (ix2 k t) = b (ix2 k t) := by
  rw [extractStridedSlice_apply ![256, 0] _ _ (ix2 k t) (ix2 (⟨256 + k.val, by omega⟩ : Fin 512) t) (fun a => by fin_cases a <;> simp <;> rfl)]
  unfold half
  rw [dif_neg (show ¬ 256 + k.val < 256 by omega)]
  refine congrArg b (funext fun b => Fin.ext ?_)
  fin_cases b
  · show 256 + k.val - 256 = k.val; omega
  · rfl

theorem mm_apply (x : FVec Ideal S512x256 .bf16) (w : FVec Ideal S256x256 .bf16) (r : Fin 512) (c : Fin 256) :
    matmul dot_S512x256_S256x256_S512x256_1_0_0_1_n_n none x w (constant S512x256 .f32 0x00000000#32) (ix2 r c) = ∑ k : Fin 256, x (ix2 r k) * w (ix2 k c) := by
  refine (Ideal.matmul_plain_apply (M := 512) (K := 256) (N := 256) none x w (constant S512x256 .f32 0x00000000#32) r c).trans ?_
  show Ideal.ofBits .f32 0x00000000#32 + _ = _
  rw [Ideal.ofBits_zero_f32, zero_add]

theorem dot_half (x : FVec Ideal S512x256 .bf16) (a b : FVec Ideal S256x256 .bf16) (r : Fin 512) (c : Fin 256) :
    dot (F := Ideal) x (half (F := Ideal) a b) (ix2 r c) = ∑ t : Fin 256, unit x a b r c t := by
  unfold dot
  rw [mm_apply]
  refine Finset.sum_congr rfl fun t _ => ?_
  rw [half_bot]
  unfold unit
  refine congrArg (· * b (ix2 t c)) ?_
  show max (matmul dot_S512x256_S256x256_S512x256_1_0_0_1_n_n none x (extractStridedSlice S256x256 ![0, 0] (half (F := Ideal) a b) slices_S512x256_o0_0_S256x256) (constant S512x256 .f32 0x00000000#32) (ix2 r t)) (Ideal.ofBits .f32 0x00000000#32) = _
  rw [mm_apply, Ideal.ofBits_zero_f32]
  exact congrArg (max · 0) (Finset.sum_congr rfl fun k _ => congrArg (x (ix2 r k) * ·) (half_top a b k t))

/-! ## One layer -/

/-- The two arrays of weights of which the devices hold the blocks. -/
structure Cut (wi : Dev nD → Mat 256 512) (wo : Dev nD → Mat 512 256) (WI : Mat 256 2048) (WO : Mat 2048 256) : Prop where
  hi : ∀ (d : Fin 4) (k : Fin 256) (t : Fin 512), wi d (ix2 k t) = WI (ix2 k (⟨512 * d.val + t.val, by omega⟩ : Fin 2048))
  ho : ∀ (d : Fin 4) (t : Fin 512) (c : Fin 256), wo d (ix2 t c) = WO (ix2 (⟨512 * d.val + t.val, by omega⟩ : Fin 2048) c)

/-- The sum over all hidden units, device by device and half by half. -/
theorem sum_units (G : Fin 2048 → EReal) :
    ∑ h : Fin 2048, G h = ∑ d : Fin 4, ((∑ t : Fin 256, G ⟨512 * d.val + t.val, by omega⟩) + ∑ t : Fin 256, G ⟨512 * d.val + (256 + t.val), by omega⟩) := by
  rw [← Equiv.sum_comp (finProdFinEquiv (m := 4) (n := 512)) G, Fintype.sum_prod_type]
  refine Finset.sum_congr rfl fun d _ => ?_
  refine (Fin.sum_univ_add (a := 256) (b := 256) _).trans ?_
  refine congrArg₂ (· + ·) (Finset.sum_congr rfl fun t _ => congrArg G (Fin.ext ?_)) (Finset.sum_congr rfl fun t _ => congrArg G (Fin.ext ?_))
  · exact Nat.add_comm t.val (512 * d.val)
  · exact Nat.add_comm (256 + t.val) (512 * d.val)

/-- The order in which the chunks arrive does not matter. -/
theorem sum_order (c : Dev nD) (gA gB : Fin 4 → EReal) :
    gA (nb 0 c) + gB (nb 0 c) + gA (nb 3 c) + gB (nb 1 c) + gA (nb 1 c) + gB (nb 3 c) + gA (nb 2 c) + gB (nb 2 c) = ∑ d : Fin 4, (gA d + gB d) := by
  have h : ∀ c : Fin 4, (nb 0 c, nb 1 c, nb 2 c, nb 3 c) = ((0, 1, 2, 3) : Fin 4 × Fin 4 × Fin 4 × Fin 4) ∨ (nb 0 c, nb 1 c, nb 2 c, nb 3 c) = ((1, 2, 3, 0) : Fin 4 × Fin 4 × Fin 4 × Fin 4)
      ∨ (nb 0 c, nb 1 c, nb 2 c, nb 3 c) = ((2, 3, 0, 1) : Fin 4 × Fin 4 × Fin 4 × Fin 4) ∨ (nb 0 c, nb 1 c, nb 2 c, nb 3 c) = ((3, 0, 1, 2) : Fin 4 × Fin 4 × Fin 4 × Fin 4) := by decide
  rw [Fin.sum_univ_four]
  rcases h c with h | h | h | h <;> simp only [Prod.mk.injEq] at h <;> obtain ⟨h0, h1, h2, h3⟩ := h <;> rw [h0, h1, h2, h3] <;> abel

variable (I : Ins Ideal)

theorem chunkA (k : Fin 3) {WI WO} (hC : Cut (I.wi k) (I.wo k) WI WO) (x : Mat 512 256) (d : Fin 4) (r : Fin 512) (c : Fin 256) :
    dot (F := Ideal) x (chA I k d) (ix2 r c) = ∑ t : Fin 256, unit x WI WO r c ⟨512 * d.val + t.val, by omega⟩ := by
  unfold chA
  rw [dot_half]
  refine Finset.sum_congr rfl fun t _ => ?_
  unfold unit
  have e1 : ∀ k' : Fin 256, tr16 (F := Ideal) (sub rI0 (I.wi k d)) (ix2 k' t) = WI (ix2 k' (⟨512 * d.val + t.val, by omega⟩ : Fin 2048)) := fun k' => by
    refine Eq.trans ?_ (hC.hi d k' ⟨t.val, by omega⟩)
    refine congrArg (I.wi k d) (funext fun a => Fin.ext ?_)
    fin_cases a
    · show 0 + 1 * k'.val = k'.val; omega
    · show 0 + 1 * t.val = t.val; omega
  have e2 : tr16 (F := Ideal) (sub rO0 (I.wo k d)) (ix2 t c) = WO (ix2 (⟨512 * d.val + t.val, by omega⟩ : Fin 2048) c) := by
    refine Eq.trans ?_ (hC.ho d ⟨t.val, by omega⟩ c)
    refine congrArg (I.wo k d) (funext fun a => Fin.ext ?_)
    fin_cases a
    · show 0 + 1 * t.val = t.val; omega
    · show 0 + 1 * c.val = c.val; omega
  rw [e2]
  simp only [e1]

theorem chunkB (k : Fin 3) {WI WO} (hC : Cut (I.wi k) (I.wo k) WI WO) (x : Mat 512 256) (d : Fin 4) (r : Fin 512) (c : Fin 256) :
    dot (F := Ideal) x (chB I k d) (ix2 r c) = ∑ t : Fin 256, unit x WI WO r c ⟨512 * d.val + (256 + t.val), by omega⟩ := by
  unfold chB
  rw [dot_half]
  refine Finset.sum_congr rfl fun t _ => ?_
  unfold unit
  have e1 : ∀ k' : Fin 256, tr16 (F := Ideal) (sub rI1 (I.wi k d)) (ix2 k' t) = WI (ix2 k' (⟨512 * d.val + (256 + t.val), by omega⟩ : Fin 2048)) := fun k' => by
    refine Eq.trans ?_ (hC.hi d k' ⟨256 + t.val, by omega⟩)
    refine congrArg (I.wi k d) (funext fun a => Fin.ext ?_)
    fin_cases a
    · show 0 + 1 * k'.val = k'.val; omega
    · show 256 + 1 * t.val = 256 + t.val; omega
  have e2 : tr16 (F := Ideal) (sub rO1 (I.wo k d)) (ix2 t c) = WO (ix2 (⟨512 * d.val + (256 + t.val), by omega⟩ : Fin 2048) c) := by
    refine Eq.trans ?_ (hC.ho d ⟨256 + t.val, by omega⟩ c)
    refine congrArg (I.wo k d) (funext fun a => Fin.ext ?_)
    fin_cases a
    · show 256 + 1 * t.val = 256 + t.val; omega
    · show 0 + 1 * c.val = c.val; omega
  rw [e2]
  simp only [e1]

/-- A layer on one device is the whole layer, whatever the device. -/
theorem layer_eq (k : Fin 3) {WI WO} (hC : Cut (I.wi k) (I.wo k) WI WO) (c : Dev nD) (x : Mat 512 256) :
    layer (F := Ideal) I k c x = lay x WI WO := by
  funext i
  obtain ⟨r, j, rfl⟩ : ∃ (r : Fin 512) (j : Fin 256), i = ix2 r j := ⟨i 0, i 1, eq_ix2 i⟩
  show _ = ∑ h : Fin 2048, unit x WI WO r j h
  rw [sum_units, ← sum_order c (fun d => ∑ t : Fin 256, unit x WI WO r j ⟨512 * d.val + t.val, by omega⟩) (fun d => ∑ t : Fin 256, unit x WI WO r j ⟨512 * d.val + (256 + t.val), by omega⟩)]
  simp only [← chunkA I k hC x _ r j, ← chunkB I k hC x _ r j]
  rfl

/-! ## The three layers -/

/-- Rows `512 d` to `512 d + 511`. -/
def rows (X : Mat 2048 256) (d : Fin 4) : Mat 512 256 := fun i => X (ix2 (⟨512 * d.val + (i 0).val, by have : (i 0).val < 512 := (i 0).isLt; omega⟩ : Fin 2048) (i 1))

/-- A layer works row by row. -/
theorem lay_rows (X : Mat 2048 256) (WI : Mat 256 2048) (WO : Mat 2048 256) (d : Fin 4) : lay (rows X d) WI WO = rows (lay X WI WO) d := rfl

/-- The blocks of rows put together again are the array. -/
theorem pile_rows (R : Dev nD → Mat 512 256) (X : Mat 2048 256) (h : ∀ d, R d = rows X d) : pile (F := Ideal) R = X := by
  funext i
  unfold pile
  rw [h]
  refine congrArg X (funext fun a => Fin.ext ?_)
  fin_cases a
  · show 512 * ((i 0).val / 512) + (i 0).val % 512 = (i 0).val; omega
  · rfl

/-- What the devices compute is the three layers of the whole arrays. -/
theorem out_eq {X : Mat 2048 256} {WI : Fin 3 → Mat 256 2048} {WO : Fin 3 → Mat 2048 256}
    (hx : ∀ d, I.x d = rows X d) (hC : ∀ k, Cut (I.wi k) (I.wo k) (WI k) (WO k)) (c : Dev nD) :
    pile (outR (F := Ideal) I c) = lay (lay (lay X (WI 0) (WO 0)) (WI 1) (WO 1)) (WI 2) (WO 2) := by
  have h0 : ∀ d, xs0 (F := Ideal) I d = rows X d := fun d => hx d
  have h1 : ∀ d, xs1 (F := Ideal) I d = rows (lay X (WI 0) (WO 0)) d := fun d => by
    show layer (F := Ideal) I 0 d (xs0 I d) = _
    rw [layer_eq I 0 (hC 0), h0]; rfl
  have h2 : ∀ d, xs2 (F := Ideal) I d = rows (lay (lay X (WI 0) (WO 0)) (WI 1) (WO 1)) d := fun d => by
    show layer (F := Ideal) I 1 d (xs1 I d) = _
    rw [layer_eq I 1 (hC 1), h1]; rfl
  have h3 : ∀ d, res (F := Ideal) I d = rows (lay (lay (lay X (WI 0) (WO 0)) (WI 1) (WO 1)) (WI 2) (WO 2)) d := fun d => by
    show layer (F := Ideal) I 2 d (xs2 I d) = _
    rw [layer_eq I 2 (hC 2), h2]; rfl
  refine pile_rows _ _ fun d => ?_
  unfold outR
  split
  · next h => subst h; exact h3 d
  · exact h3 d

/-! ## The reference -/

/-- A layer as the reference writes it. -/
theorem ref_layer (X : Mat 2048 256) (WI : Mat 256 2048) (WO : Mat 2048 256) :
    Host.dotGeneral (F := Ideal) (φ₁ := .f32) (φ₂ := .f32) Cert.ReferenceIdeal.dot_S2048x2048_S2048x256_S2048x256_1_0_0_1_n_n none
      (maximumf (Host.dotGeneral (F := Ideal) (φ₁ := .f32) (φ₂ := .f32) Cert.ReferenceIdeal.dot_S2048x256_S256x2048_S2048x2048_1_0_0_1_n_n none X WI)
        (broadcastInDim Cert.ReferenceIdeal.S2048x2048 ![] Cert.ReferenceIdeal.Facts₀.bcast_S_S2048x2048 (constant Cert.ReferenceIdeal.S_ .f32 0x00000000#32))) WO
      = lay X WI WO := by
  funext i
  obtain ⟨r, j, rfl⟩ : ∃ (r : Fin 2048) (j : Fin 256), i = ix2 r j := ⟨i 0, i 1, eq_ix2 i⟩
  show _ = ∑ h : Fin 2048, unit X WI WO r j h
  refine (StackMember.dotGeneral_plain_apply (m := 2048) (k := 2048) (n := 256) none _ WO r j).trans (Finset.sum_congr rfl fun h _ => ?_)
  unfold unit
  refine congrArg (· * WO (ix2 h j)) ?_
  show max (Host.dotGeneral (F := Ideal) (φ₁ := .f32) (φ₂ := .f32) Cert.ReferenceIdeal.dot_S2048x256_S256x2048_S2048x2048_1_0_0_1_n_n none X WI (ix2 r h)) (Ideal.ofBits .f32 0x00000000#32) = _
  rw [Ideal.ofBits_zero_f32]
  exact congrArg (max · 0) (StackMember.dotGeneral_plain_apply (m := 2048) (k := 256) (n := 2048) none X WI r h)

/-! ## The claim -/

theorem rows_block (X : Mat 2048 256) (d : Fin 4) : Layout.block ⟨2, ![512, 256]⟩ ⟨2, ![2048, 256]⟩ 0 4 d X = rows X d := by
  funext i
  refine congrArg X (funext fun a => Fin.ext ?_)
  fin_cases a
  · show d.val * 512 + (i 0).val = 512 * d.val + (i 0).val; omega
  · rfl

theorem cut_block {wi : Dev nD → Mat 256 512} {wo : Dev nD → Mat 512 256} (WI : Mat 256 2048) (WO : Mat 2048 256)
    (hi : ∀ d : Fin 4, wi d = Layout.block ⟨2, ![256, 512]⟩ ⟨2, ![256, 2048]⟩ 1 4 d WI)
    (ho : ∀ d : Fin 4, wo d = Layout.block ⟨2, ![512, 256]⟩ ⟨2, ![2048, 256]⟩ 0 4 d WO) : Cut wi wo WI WO where
  hi d k t := by
    rw [hi]
    refine congrArg WI (funext fun a => Fin.ext ?_)
    fin_cases a
    · rfl
    · show d.val * 512 + t.val = 512 * d.val + t.val; omega
  ho d t c := by rw [ho, rows_block]; rfl

theorem value : Cert.algebraic_KernelIdeal_ReferenceIdeal := by
  intro m g m' g' _ h
  refine ⟨_, ?_, (θ_run Cert.ReferenceIdeal.defs _ _).mono (fun r hr => hr 0) (Cert.ReferenceIdeal.Value.run (F := Ideal) m' g')⟩
  refine (θ_run Cert.KernelIdeal.defs _ _).mono (fun r hr c => ⟨(hr.1 c).1.trans ?_, (hr.1 c).2⟩) (run_post (F := Ideal) m g)
  rw [ref_layer, ref_layer, ref_layer]
  exact out_eq (insOf m)
    (WI := fun k => match k with
      | 0 => m' (((0 : Dev Cert.ReferenceIdeal.nD) : Thread Cert.ReferenceIdeal.nD Cert.ReferenceIdeal.τ).loc Cert.ReferenceIdeal.main_arg1)
      | 1 => m' (((0 : Dev Cert.ReferenceIdeal.nD) : Thread Cert.ReferenceIdeal.nD Cert.ReferenceIdeal.τ).loc Cert.ReferenceIdeal.main_arg2)
      | 2 => m' (((0 : Dev Cert.ReferenceIdeal.nD) : Thread Cert.ReferenceIdeal.nD Cert.ReferenceIdeal.τ).loc Cert.ReferenceIdeal.main_arg3))
    (WO := fun k => match k with
      | 0 => m' (((0 : Dev Cert.ReferenceIdeal.nD) : Thread Cert.ReferenceIdeal.nD Cert.ReferenceIdeal.τ).loc Cert.ReferenceIdeal.main_arg4)
      | 1 => m' (((0 : Dev Cert.ReferenceIdeal.nD) : Thread Cert.ReferenceIdeal.nD Cert.ReferenceIdeal.τ).loc Cert.ReferenceIdeal.main_arg5)
      | 2 => m' (((0 : Dev Cert.ReferenceIdeal.nD) : Thread Cert.ReferenceIdeal.nD Cert.ReferenceIdeal.τ).loc Cert.ReferenceIdeal.main_arg6))
    (fun d => (h d).1.trans (rows_block _ d))
    (fun k => match k with
      | 0 => cut_block _ _ (fun d => (h d).2.1) (fun d => (h d).2.2.2.2.1)
      | 1 => cut_block _ _ (fun d => (h d).2.2.1) (fun d => (h d).2.2.2.2.2.1)
      | 2 => cut_block _ _ (fun d => (h d).2.2.2.1) (fun d => (h d).2.2.2.2.2.2)) c

end Cert.Mlp

end
-- ==== Proof.lean ====
module

public import proofs.«01_k».proof.Proof.Value
public import proofs.«01_k».proof.Proof.Final
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.frame_kernel, Cert.Mlp.frame_kernelIdeal, Cert.Mlp.frame_reference, trivial, Cert.Mlp.value⟩

end Cert.Proof

end
